-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_below_infinity_and_temperatures_positive [hPre_logits_below_infinity_and_temperatures_positive : Cert.Pre_logits_below_infinity_and_temperatures_positive.Facts] (m : (ℓ : Loc Cert.KernelIdeal.nD Cert.KernelIdeal.τ Cert.KernelIdeal.sig) → Buf (Elt Ideal) ℓ) : Prop :=
  ∀ c : Dev Cert.KernelIdeal.nD,
    (Cert.Pre_logits_below_infinity_and_temperatures_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_below_infinity_and_temperatures_positive [hPre_logits_below_infinity_and_temperatures_positive : Cert.Pre_logits_below_infinity_and_temperatures_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_below_infinity_and_temperatures_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_logits_below_infinity_and_temperatures_positive [hKernelIdeal : Cert.KernelIdeal.Facts] [hPre_logits_below_infinity_and_temperatures_positive : Cert.Pre_logits_below_infinity_and_temperatures_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_below_infinity_and_temperatures_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_logits_below_infinity_and_temperatures_positive [hReferenceIdeal : Cert.ReferenceIdeal.Facts] [hPre_logits_below_infinity_and_temperatures_positive : Cert.Pre_logits_below_infinity_and_temperatures_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_below_infinity_and_temperatures_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_logits_below_infinity_and_temperatures_positive [hKernelIdeal : Cert.KernelIdeal.Facts] [hReferenceIdeal : Cert.ReferenceIdeal.Facts] [hPre_logits_below_infinity_and_temperatures_positive : Cert.Pre_logits_below_infinity_and_temperatures_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_below_infinity_and_temperatures_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_logits_below_infinity_and_temperatures_positive : Cert.Pre_logits_below_infinity_and_temperatures_positive.Facts),
    quiescent_Kernel (hKernel := hKernel)
    ∧ quiescent_KernelIdeal (hKernelIdeal := hKernelIdeal)
    ∧ quiescent_KernelIdeal_pre_logits_below_infinity_and_temperatures_positive (hKernelIdeal := hKernelIdeal) (hPre_logits_below_infinity_and_temperatures_positive := hPre_logits_below_infinity_and_temperatures_positive)
    ∧ quiescent_ReferenceIdeal (hReferenceIdeal := hReferenceIdeal)
    ∧ quiescent_ReferenceIdeal_pre_logits_below_infinity_and_temperatures_positive (hReferenceIdeal := hReferenceIdeal) (hPre_logits_below_infinity_and_temperatures_positive := hPre_logits_below_infinity_and_temperatures_positive)
    ∧ preserves_Kernel_KernelIdeal
    ∧ algebraic_KernelIdeal_ReferenceIdeal_pre_logits_below_infinity_and_temperatures_positive (hKernelIdeal := hKernelIdeal) (hReferenceIdeal := hReferenceIdeal) (hPre_logits_below_infinity_and_temperatures_positive := hPre_logits_below_infinity_and_temperatures_positive)
-- ==== Pre_logits_below_infinity_and_temperatures_positive.lean ====
abbrev S64x1000000 : Shape := ⟨2, ![64, 1000000]⟩
abbrev S64 : Shape := ⟨1, ![64]⟩
abbrev S_ : Shape := ⟨0, ![]⟩

class Facts : Prop where
  bcast_S_S64x1000000 : S_.BroadcastsInDim S64x1000000 (![] : Fin 0 → Fin S64x1000000.rank)
  reducesTo_S64x1000000_S_d0_1 : S64x1000000.ReducesTo [0, 1] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S64x1000000 .f32) (main_arg1 : FVec F S64 .f32) : IVec S_ 1 :=
  let main_cst : FVec F S_ .f32 := constant S_ .f32 0x7F800000#32
  let main_v0 : FVec F S64x1000000 .f32 := broadcastInDim S64x1000000 ![] bcast_S_S64x1000000 main_cst
  let main_v1 : IVec S64x1000000 1 := cmpf .olt main_arg0 main_v0
  let main_c : IVec S_ 1 := constantI S_ 1 1#1
  let main_v2 : IVec S_ 1 := (fun x v => Host.reduce IntOp.andi x v reducesTo_S64x1000000_S_d0_1 h_S_) main_v1 main_c
  let main_cst_0 : FVec F S_ .f32 := constant S_ .f32 0x00000000#32
  let main_v3 : FVec F S64 .f32 := broadcastInDim S64 ![] bcast_S_S64 main_cst_0
  let main_v4 : IVec S64 1 := cmpf .ogt main_arg1 main_v3
  let main_c_1 : IVec S_ 1 := constantI S_ 1 1#1
  let main_v5 : IVec S_ 1 := (fun x v => Host.reduce IntOp.andi x v reducesTo_S64_S_d0 h_S_) main_v4 main_c_1
  let main_v6 : IVec S_ 1 := andi main_v2 main_v5
  let main_cst_2 : FVec F S_ .f32 := constant S_ .f32 0x7F800000#32
  let main_v7 : FVec F S64 .f32 := broadcastInDim S64 ![] bcast_S_S64 main_cst_2
  let main_v8 : IVec S64 1 := cmpf .olt main_arg1 main_v7
  let main_c_3 : IVec S_ 1 := constantI S_ 1 1#1
  let main_v9 : IVec S_ 1 := (fun x v => Host.reduce IntOp.andi x v reducesTo_S64_S_d0 h_S_) main_v8 main_c_3
  let main_v10 : IVec S_ 1 := andi main_v6 main_v9
  main_v10
-- ==== Kernel.lean ====
abbrev S64x1000000 : Shape := ⟨2, ![64, 1000000]⟩
abbrev S64 : Shape := ⟨1, ![64]⟩
abbrev S64x1015808 : Shape := ⟨2, ![64, 1015808]⟩
abbrev S64x16384 : Shape := ⟨2, ![64, 16384]⟩
abbrev S64x1 : Shape := ⟨2, ![64, 1]⟩
abbrev S8x262144 : Shape := ⟨2, ![8, 262144]⟩
abbrev S8x1 : Shape := ⟨2, ![8, 1]⟩
abbrev S8 : Shape := ⟨1, ![8]⟩

abbrev nBuf : Space → Nat
  | .hbm => 7
  | .vmem => 12
  | .smem => 0
  | _ => 0

abbrev bufTy : (tb : Table) → Fin (tcTables nBuf tb) → BufTy
  | .hbm, ⟨0, _⟩ => ⟨S64x1000000, .f32⟩
  | .hbm, ⟨1, _⟩ => ⟨S64, .f32⟩
  | .hbm, ⟨2, _⟩ => ⟨S64x1015808, .f32⟩
  | .hbm, ⟨3, _⟩ => ⟨S64x1000000, .f32⟩
  | .hbm, ⟨4, _⟩ => ⟨S64x1, .f32⟩
  | .hbm, ⟨5, _⟩ => ⟨S64x1, .i32⟩
  | .hbm, ⟨6, _⟩ => ⟨S64, .i32⟩
  | .local _ .vmem, ⟨0, _⟩ => ⟨S64x16384, .f32⟩
  | .local _ .vmem, ⟨1, _⟩ => ⟨S64x16384, .f32⟩
  | .local _ .vmem, ⟨2, _⟩ => ⟨S8x262144, .f32⟩
  | .local _ .vmem, ⟨3, _⟩ => ⟨S8x262144, .f32⟩
  | .local _ .vmem, ⟨4, _⟩ => ⟨S8x262144, .f32⟩
  | .local _ .vmem, ⟨5, _⟩ => ⟨S8x262144, .f32⟩
  | .local _ .vmem, ⟨6, _⟩ => ⟨S8x1, .f32⟩
  | .local _ .vmem, ⟨7, _⟩ => ⟨S8x1, .f32⟩
  | .local _ .vmem, ⟨8, _⟩ => ⟨S8x1, .i32⟩
  | .local _ .vmem, ⟨9, _⟩ => ⟨S8x1, .i32⟩
  | .local _ .vmem, ⟨10, _⟩ => ⟨S8x1, .f32⟩
  | .local _ .vmem, ⟨11, _⟩ => ⟨S8x1, .i32⟩
  | _, _ => ⟨S64x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_scratch0 : Ref sig .tc := ⟨.vmem, 10, rfl⟩
abbrev cc1_scratch1 : Ref sig .tc := ⟨.vmem, 11, rfl⟩
abbrev cc0_sem0_0 : DmaSem sig := 0
abbrev cc0_sem0_1 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![62], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v39 : BitVec 1 := Scalar.cmpi .eq arg1 c3_i32
  let v40 : BitVec 32 := Scalar.extui v39
  let c0_i32_18 : BitVec 32 := 0#32
  let v41 : BitVec 1 := Scalar.cmpi .ne v40 c0_i32_18
  v41

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8x262144 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x262144 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S8x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]
-- ==== ReferenceIdeal.lean ====
abbrev S64x1000000 : Shape := ⟨2, ![64, 1000000]⟩
abbrev S64 : Shape := ⟨1, ![64]⟩
abbrev S64x1 : Shape := ⟨2, ![64, 1]⟩
abbrev S_ : Shape := ⟨0, ![]⟩
abbrev S1 : Shape := ⟨1, ![1]⟩
abbrev S2 : Shape := ⟨1, ![2]⟩
abbrev S1x1 : Shape := ⟨2, ![1, 1]⟩

abbrev nBuf : Space → Nat
  | .hbm => 305
  | .vmem => 0
  | .smem => 0
  | _ => 0

abbrev hbmTy0_0 (i : Nat) : BufTy := match i % 128 with
  | 0 => ⟨S64x1000000, .f32⟩
  | 1 => ⟨S64, .f32⟩
  | 2 => ⟨S64x1, .f32⟩
  | 3 => ⟨S64x1000000, .f32⟩
  | 4 => ⟨S64x1000000, .f32⟩
  | 5 => ⟨S_, .f32⟩
  | 6 => ⟨S64, .f32⟩
  | 7 => ⟨S_, .f32⟩
  | 8 => ⟨S64, .f32⟩
  | 9 => ⟨S64, .f32⟩
  | 10 => ⟨S64x1, .f32⟩
  | 11 => ⟨S64x1000000, .f32⟩
  | 12 => ⟨S64x1000000, .f32⟩
  | 13 => ⟨S64x1000000, .f32⟩
  | 14 => ⟨S_, .f32⟩
  | 15 => ⟨S64, .f32⟩
  | 16 => ⟨S64x1, .f32⟩
  | 17 => ⟨S64x1000000, .f32⟩
  | 18 => ⟨S64x1000000, .f32⟩
  | 19 => ⟨S_, .i32⟩
  | 20 => ⟨S_, .i32⟩
  | 21 => ⟨S_, .i32⟩
  | 22 => ⟨S_, .i32⟩
  | 23 => ⟨S1, .i32⟩
  | 24 => ⟨S_, .i32⟩
  | 25 => ⟨S_, .i32⟩
  | 26 => ⟨S_, .i32⟩
  | 27 => ⟨S1, .i32⟩
  | 28 => ⟨S2, .i32⟩
  | 29 => ⟨S_, .f32⟩
  | 30 => ⟨S_, .f32⟩
  | 31 => ⟨S_, .f32⟩
  | 32 => ⟨S_, .f32⟩
  | 33 => ⟨S1x1, .f32⟩
  | 34 => ⟨S1x1, .f32⟩
  | 35 => ⟨S1, .i32⟩
  | 36 => ⟨S_, .i32⟩
  | 37 => ⟨S1, .i32⟩
  | 38 => ⟨S_, .i32⟩
  | 39 => ⟨S64x1000000, .i64⟩
  | 40 => ⟨S64x1000000, .i64⟩
  | 41 => ⟨S_, .i64⟩
  | 42 => ⟨S64x1000000, .i64⟩
  | 43 => ⟨S64x1000000, .i64⟩
  | 44 => ⟨S_, .i64⟩
  | 45 => ⟨S64x1000000, .i64⟩
  | 46 => ⟨S64x1000000, .i64⟩
  | 47 => ⟨S64x1000000, .i64⟩
  | 48 => ⟨S_, .i64⟩
  | 49 => ⟨S64x1000000, .i64⟩
  | 50 => ⟨S64x1000000, .i64⟩
  | 51 => ⟨S64x1000000, .i32⟩
  | 52 => ⟨S64x1000000, .i32⟩
  | 53 => ⟨S_, .i32⟩
  | 54 => ⟨S_, .i32⟩
  | 55 => ⟨S_, .i32⟩
  | 56 => ⟨S64x1000000, .i32⟩
  | 57 => ⟨S64x1000000, .i32⟩
  | 58 => ⟨S64x1000000, .i32⟩
  | 59 => ⟨S64x1000000, .i32⟩
  | 60 => ⟨S64x1000000, .i32⟩
  | 61 => ⟨S_, .i32⟩
  | 62 => ⟨S64x1000000, .i32⟩
  | 63 => ⟨S64x1000000, .i32⟩
  | 64 => ⟨S_, .i32⟩
  | 65 => ⟨S64x1000000, .i32⟩
  | 66 => ⟨S64x1000000, .i32⟩
  | 67 => ⟨S64x1000000, .i32⟩
  | 68 => ⟨S64x1000000, .i32⟩
  | 69 => ⟨S64x1000000, .i32⟩
  | 70 => ⟨S_, .i32⟩
  | 71 => ⟨S64x1000000, .i32⟩
  | 72 => ⟨S64x1000000, .i32⟩
  | 73 => ⟨S_, .i32⟩
  | 74 => ⟨S64x1000000, .i32⟩
  | 75 => ⟨S64x1000000, .i32⟩
  | 76 => ⟨S64x1000000, .i32⟩
  | 77 => ⟨S64x1000000, .i32⟩
  | 78 => ⟨S64x1000000, .i32⟩
  | 79 => ⟨S_, .i32⟩
  | 80 => ⟨S64x1000000, .i32⟩
  | 81 => ⟨S64x1000000, .i32⟩
  | 82 => ⟨S_, .i32⟩
  | 83 => ⟨S64x1000000, .i32⟩
  | 84 => ⟨S64x1000000, .i32⟩
  | 85 => ⟨S64x1000000, .i32⟩
  | 86 => ⟨S64x1000000, .i32⟩
  | 87 => ⟨S64x1000000, .i32⟩
  | 88 => ⟨S_, .i32⟩
  | 89 => ⟨S64x1000000, .i32⟩
  | 90 => ⟨S64x1000000, .i32⟩
  | 91 => ⟨S_, .i32⟩
  | 92 => ⟨S64x1000000, .i32⟩
  | 93 => ⟨S64x1000000, .i32⟩
  | 94 => ⟨S64x1000000, .i32⟩
  | 95 => ⟨S64x1000000, .i32⟩
  | 96 => ⟨S64x1000000, .i32⟩
  | 97 => ⟨S64x1000000, .i32⟩
  | 98 => ⟨S64x1000000, .i32⟩
  | 99 => ⟨S64x1000000, .i32⟩
  | 100 => ⟨S_, .i32⟩
  | 101 => ⟨S64x1000000, .i32⟩
  | 102 => ⟨S64x1000000, .i32⟩
  | 103 => ⟨S64x1000000, .i32⟩
  | 104 => ⟨S_, .i32⟩
  | 105 => ⟨S64x1000000, .i32⟩
  | 106 => ⟨S64x1000000, .i32⟩
  | 107 => ⟨S_, .i32⟩
  | 108 => ⟨S64x1000000, .i32⟩
  | 109 => ⟨S64x1000000, .i32⟩
  | 110 => ⟨S64x1000000, .i32⟩
  | 111 => ⟨S64x1000000, .i32⟩
  | 112 => ⟨S64x1000000, .i32⟩
  | 113 => ⟨S_, .i32⟩
  | 114 => ⟨S64x1000000, .i32⟩
  | 115 => ⟨S64x1000000, .i32⟩
  | 116 => ⟨S_, .i32⟩
  | 117 => ⟨S64x1000000, .i32⟩
  | 118 => ⟨S64x1000000, .i32⟩
  | 119 => ⟨S64x1000000, .i32⟩
  | 120 => ⟨S64x1000000, .i32⟩
  | 121 => ⟨S64x1000000, .i32⟩
  | 122 => ⟨S_, .i32⟩
  | 123 => ⟨S64x1000000, .i32⟩
  | 124 => ⟨S64x1000000, .i32⟩
  | 125 => ⟨S_, .i32⟩
  | 126 => ⟨S64x1000000, .i32⟩
  | 127 => ⟨S64x1000000, .i32⟩
  | _ => ⟨S64x1000000, .f32⟩

abbrev hbmTy0_1 (i : Nat) : BufTy := match i % 128 with
  | 0 => ⟨S64x1000000, .i32⟩
  | 1 => ⟨S64x1000000, .i32⟩
  | 2 => ⟨S64x1000000, .i32⟩
  | 3 => ⟨S_, .i32⟩
  | 4 => ⟨S64x1000000, .i32⟩
  | 5 => ⟨S64x1000000, .i32⟩
  | 6 => ⟨S_, .i32⟩
  | 7 => ⟨S64x1000000, .i32⟩
  | 8 => ⟨S64x1000000, .i32⟩
  | 9 => ⟨S64x1000000, .i32⟩
  | 10 => ⟨S64x1000000, .i32⟩
  | 11 => ⟨S64x1000000, .i32⟩
  | 12 => ⟨S64x1000000, .i32⟩
  | 13 => ⟨S64x1000000, .i32⟩
  | 14 => ⟨S64x1000000, .i32⟩
  | 15 => ⟨S_, .i32⟩
  | 16 => ⟨S64x1000000, .i32⟩
  | 17 => ⟨S64x1000000, .i32⟩
  | 18 => ⟨S64x1000000, .i32⟩
  | 19 => ⟨S_, .i32⟩
  | 20 => ⟨S64x1000000, .i32⟩
  | 21 => ⟨S64x1000000, .i32⟩
  | 22 => ⟨S_, .i32⟩
  | 23 => ⟨S64x1000000, .i32⟩
  | 24 => ⟨S64x1000000, .i32⟩
  | 25 => ⟨S64x1000000, .i32⟩
  | 26 => ⟨S64x1000000, .i32⟩
  | 27 => ⟨S64x1000000, .i32⟩
  | 28 => ⟨S_, .i32⟩
  | 29 => ⟨S64x1000000, .i32⟩
  | 30 => ⟨S64x1000000, .i32⟩
  | 31 => ⟨S_, .i32⟩
  | 32 => ⟨S64x1000000, .i32⟩
  | 33 => ⟨S64x1000000, .i32⟩
  | 34 => ⟨S64x1000000, .i32⟩
  | 35 => ⟨S64x1000000, .i32⟩
  | 36 => ⟨S64x1000000, .i32⟩
  | 37 => ⟨S_, .i32⟩
  | 38 => ⟨S64x1000000, .i32⟩
  | 39 => ⟨S64x1000000, .i32⟩
  | 40 => ⟨S_, .i32⟩
  | 41 => ⟨S64x1000000, .i32⟩
  | 42 => ⟨S64x1000000, .i32⟩
  | 43 => ⟨S64x1000000, .i32⟩
  | 44 => ⟨S64x1000000, .i32⟩
  | 45 => ⟨S64x1000000, .i32⟩
  | 46 => ⟨S_, .i32⟩
  | 47 => ⟨S64x1000000, .i32⟩
  | 48 => ⟨S64x1000000, .i32⟩
  | 49 => ⟨S_, .i32⟩
  | 50 => ⟨S64x1000000, .i32⟩
  | 51 => ⟨S64x1000000, .i32⟩
  | 52 => ⟨S64x1000000, .i32⟩
  | 53 => ⟨S64x1000000, .i32⟩
  | 54 => ⟨S64x1000000, .i32⟩
  | 55 => ⟨S64x1000000, .i32⟩
  | 56 => ⟨S64x1000000, .i32⟩
  | 57 => ⟨S64x1000000, .i32⟩
  | 58 => ⟨S_, .i32⟩
  | 59 => ⟨S64x1000000, .i32⟩
  | 60 => ⟨S64x1000000, .i32⟩
  | 61 => ⟨S64x1000000, .i32⟩
  | 62 => ⟨S_, .i32⟩
  | 63 => ⟨S64x1000000, .i32⟩
  | 64 => ⟨S64x1000000, .i32⟩
  | 65 => ⟨S_, .i32⟩
  | 66 => ⟨S64x1000000, .i32⟩
  | 67 => ⟨S64x1000000, .i32⟩
  | 68 => ⟨S64x1000000, .i32⟩
  | 69 => ⟨S64x1000000, .i32⟩
  | 70 => ⟨S64x1000000, .i32⟩
  | 71 => ⟨S_, .i32⟩
  | 72 => ⟨S64x1000000, .i32⟩
  | 73 => ⟨S64x1000000, .i32⟩
  | 74 => ⟨S_, .i32⟩
  | 75 => ⟨S64x1000000, .i32⟩
  | 76 => ⟨S64x1000000, .i32⟩
  | 77 => ⟨S64x1000000, .i32⟩
  | 78 => ⟨S64x1000000, .i32⟩
  | 79 => ⟨S64x1000000, .i32⟩
  | 80 => ⟨S_, .i32⟩
  | 81 => ⟨S64x1000000, .i32⟩
  | 82 => ⟨S64x1000000, .i32⟩
  | 83 => ⟨S_, .i32⟩
  | 84 => ⟨S64x1000000, .i32⟩
  | 85 => ⟨S64x1000000, .i32⟩
  | 86 => ⟨S64x1000000, .i32⟩
  | 87 => ⟨S64x1000000, .i32⟩
  | 88 => ⟨S64x1000000, .i32⟩
  | 89 => ⟨S_, .i32⟩
  | 90 => ⟨S64x1000000, .i32⟩
  | 91 => ⟨S64x1000000, .i32⟩
  | 92 => ⟨S_, .i32⟩
  | 93 => ⟨S64x1000000, .i32⟩
  | 94 => ⟨S64x1000000, .i32⟩
  | 95 => ⟨S64x1000000, .i32⟩
  | 96 => ⟨S64x1000000, .i32⟩
  | 97 => ⟨S64x1000000, .i32⟩
  | 98 => ⟨S64x1000000, .i32⟩
  | 99 => ⟨S64x1000000, .i32⟩
  | 100 => ⟨S64x1000000, .i32⟩
  | 101 => ⟨S_, .i32⟩
  | 102 => ⟨S64x1000000, .i32⟩
  | 103 => ⟨S64x1000000, .i32⟩
  | 104 => ⟨S64x1000000, .i32⟩
  | 105 => ⟨S_, .i32⟩
  | 106 => ⟨S64x1000000, .i32⟩
  | 107 => ⟨S64x1000000, .i32⟩
  | 108 => ⟨S_, .i32⟩
  | 109 => ⟨S64x1000000, .i32⟩
  | 110 => ⟨S64x1000000, .i32⟩
  | 111 => ⟨S64x1000000, .i32⟩
  | 112 => ⟨S64x1000000, .i32⟩
  | 113 => ⟨S64x1000000, .i32⟩
  | 114 => ⟨S_, .i32⟩
  | 115 => ⟨S64x1000000, .i32⟩
  | 116 => ⟨S64x1000000, .i32⟩
  | 117 => ⟨S_, .i32⟩
  | 118 => ⟨S64x1000000, .i32⟩
  | 119 => ⟨S64x1000000, .i32⟩
  | 120 => ⟨S64x1000000, .i32⟩
  | 121 => ⟨S64x1000000, .i32⟩
  | 122 => ⟨S64x1000000, .i32⟩
  | 123 => ⟨S_, .i32⟩
  | 124 => ⟨S64x1000000, .i32⟩
  | 125 => ⟨S64x1000000, .i32⟩
  | 126 => ⟨S_, .i32⟩
  | 127 => ⟨S64x1000000, .i32⟩
  | _ => ⟨S64x1000000, .f32⟩

abbrev hbmTy0_2 (i : Nat) : BufTy := match i % 128 with
  | 0 => ⟨S64x1000000, .i32⟩
  | 1 => ⟨S64x1000000, .i32⟩
  | 2 => ⟨S64x1000000, .i32⟩
  | 3 => ⟨S64x1000000, .i32⟩
  | 4 => ⟨S_, .i32⟩
  | 5 => ⟨S64x1000000, .i32⟩
  | 6 => ⟨S64x1000000, .i32⟩
  | 7 => ⟨S_, .i32⟩
  | 8 => ⟨S64x1000000, .i32⟩
  | 9 => ⟨S64x1000000, .i32⟩
  | 10 => ⟨S64x1000000, .i32⟩
  | 11 => ⟨S64x1000000, .i32⟩
  | 12 => ⟨S64x1000000, .i32⟩
  | 13 => ⟨S64x1000000, .i32⟩
  | 14 => ⟨S64x1000000, .i32⟩
  | 15 => ⟨S64x1000000, .i32⟩
  | 16 => ⟨S_, .i32⟩
  | 17 => ⟨S64x1000000, .i32⟩
  | 18 => ⟨S64x1000000, .i32⟩
  | 19 => ⟨S64x1000000, .i32⟩
  | 20 => ⟨S_, .i32⟩
  | 21 => ⟨S64x1000000, .i32⟩
  | 22 => ⟨S64x1000000, .i32⟩
  | 23 => ⟨S_, .i32⟩
  | 24 => ⟨S64x1000000, .i32⟩
  | 25 => ⟨S64x1000000, .i32⟩
  | 26 => ⟨S64x1000000, .f32⟩
  | 27 => ⟨S_, .f32⟩
  | 28 => ⟨S64x1000000, .f32⟩
  | 29 => ⟨S64x1000000, .f32⟩
  | 30 => ⟨S1x1, .f32⟩
  | 31 => ⟨S64x1000000, .f32⟩
  | 32 => ⟨S64x1000000, .f32⟩
  | 33 => ⟨S64x1000000, .f32⟩
  | 34 => ⟨S64x1000000, .f32⟩
  | 35 => ⟨S64x1000000, .f32⟩
  | 36 => ⟨S64x1000000, .f32⟩
  | 37 => ⟨S64x1000000, .f32⟩
  | 38 => ⟨S64x1000000, .f32⟩
  | 39 => ⟨S64x1000000, .f32⟩
  | 40 => ⟨S_, .f32⟩
  | 41 => ⟨S64x1000000, .f32⟩
  | 42 => ⟨S64x1000000, .f32⟩
  | 43 => ⟨S64x1000000, .f32⟩
  | 44 => ⟨S64x1000000, .i32⟩
  | 45 => ⟨S_, .f32⟩
  | 46 => ⟨S_, .i32⟩
  | 47 => ⟨S64, .f32⟩
  | 48 => ⟨S64, .i32⟩
  | _ => ⟨S64x1000000, .f32⟩

abbrev hbmTy (i : Nat) : BufTy := match i / 128 with
  | 0 => hbmTy0_0 i
  | 1 => hbmTy0_1 i
  | 2 => hbmTy0_2 i
  | _ => ⟨S64x1000000, .f32⟩

abbrev bufTy : (tb : Table) → Fin (tcTables nBuf tb) → BufTy
  | .hbm, ⟨i, _⟩ => hbmTy i
  | _, _ => ⟨S64x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_cst : Ref sig .tc := ⟨.hbm, 29, rfl⟩
abbrev main_call0_cst_0 : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_v9 : Ref sig .tc := ⟨.hbm, 40, rfl⟩
abbrev main_call0_call0_c : Ref sig .tc := ⟨.hbm, 41, rfl⟩
abbrev main_call0_call0_v10 : Ref sig .tc := ⟨.hbm, 42, rfl⟩
abbrev main_call0_call0_v11 : Ref sig .tc := ⟨.hbm, 43, rfl⟩
abbrev main_call0_call0_c_0 : Ref sig .tc := ⟨.hbm, 44, rfl⟩
abbrev main_call0_call0_v12 : Ref sig .tc := ⟨.hbm, 45, rfl⟩
abbrev main_call0_call0_v13 : Ref sig .tc := ⟨.hbm, 46, rfl⟩
abbrev main_call0_call0_v14 : Ref sig .tc := ⟨.hbm, 47, rfl⟩
abbrev main_call0_call0_c_1 : Ref sig .tc := ⟨.hbm, 48, rfl⟩
abbrev main_call0_call0_v15 : Ref sig .tc := ⟨.hbm, 49, rfl⟩
abbrev main_call0_call0_v16 : Ref sig .tc := ⟨.hbm, 50, rfl⟩
abbrev main_call0_call0_v17 : Ref sig .tc := ⟨.hbm, 51, rfl⟩
abbrev main_call0_call0_v18 : Ref sig .tc := ⟨.hbm, 52, rfl⟩
abbrev main_call0_call0_call0_v0 : Ref sig .tc := ⟨.hbm, 53, rfl⟩
abbrev main_call0_call0_call0_c : Ref sig .tc := ⟨.hbm, 54, rfl⟩
abbrev main_call0_call0_call0_v1 : Ref sig .tc := ⟨.hbm, 55, rfl⟩
abbrev main_call0_call0_call0_v2 : Ref sig .tc := ⟨.hbm, 56, rfl⟩
abbrev main_call0_call0_call0_v3 : Ref sig .tc := ⟨.hbm, 57, rfl⟩
abbrev main_call0_call0_call0_v4 : Ref sig .tc := ⟨.hbm, 58, rfl⟩
abbrev main_call0_call0_call0_v5 : Ref sig .tc := ⟨.hbm, 59, rfl⟩
abbrev main_call0_call0_call0_v6 : Ref sig .tc := ⟨.hbm, 60, rfl⟩
abbrev main_call0_call0_call0_c_0 : Ref sig .tc := ⟨.hbm, 61, rfl⟩
abbrev main_call0_call0_call0_v7 : Ref sig .tc := ⟨.hbm, 62, rfl⟩
abbrev main_call0_call0_call0_v8 : Ref sig .tc := ⟨.hbm, 63, rfl⟩
abbrev main_call0_call0_call0_c_1 : Ref sig .tc := ⟨.hbm, 64, rfl⟩
abbrev main_call0_call0_call0_v9 : Ref sig .tc := ⟨.hbm, 65, rfl⟩
abbrev main_call0_call0_call0_v10 : Ref sig .tc := ⟨.hbm, 66, rfl⟩
abbrev main_call0_call0_call0_v11 : Ref sig .tc := ⟨.hbm, 67, rfl⟩
abbrev main_call0_call0_call0_v12 : Ref sig .tc := ⟨.hbm, 68, rfl⟩
abbrev main_call0_call0_call0_v13 : Ref sig .tc := ⟨.hbm, 69, rfl⟩
abbrev main_call0_call0_call0_c_2 : Ref sig .tc := ⟨.hbm, 70, rfl⟩
abbrev main_call0_call0_call0_v14 : Ref sig .tc := ⟨.hbm, 71, rfl⟩
abbrev main_call0_call0_call0_v15 : Ref sig .tc := ⟨.hbm, 72, rfl⟩
abbrev main_call0_call0_call0_c_3 : Ref sig .tc := ⟨.hbm, 73, rfl⟩
abbrev main_call0_call0_call0_v16 : Ref sig .tc := ⟨.hbm, 74, rfl⟩
abbrev main_call0_call0_call0_v17 : Ref sig .tc := ⟨.hbm, 75, rfl⟩
abbrev main_call0_call0_call0_v18 : Ref sig .tc := ⟨.hbm, 76, rfl⟩
abbrev main_call0_call0_call0_v19 : Ref sig .tc := ⟨.hbm, 77, rfl⟩
abbrev main_call0_call0_call0_v20 : Ref sig .tc := ⟨.hbm, 78, rfl⟩
abbrev main_call0_call0_call0_c_4 : Ref sig .tc := ⟨.hbm, 79, rfl⟩
abbrev main_call0_call0_call0_v21 : Ref sig .tc := ⟨.hbm, 80, rfl⟩
abbrev main_call0_call0_call0_v22 : Ref sig .tc := ⟨.hbm, 81, rfl⟩
abbrev main_call0_call0_call0_c_5 : Ref sig .tc := ⟨.hbm, 82, rfl⟩
abbrev main_call0_call0_call0_v23 : Ref sig .tc := ⟨.hbm, 83, rfl⟩
abbrev main_call0_call0_call0_v24 : Ref sig .tc := ⟨.hbm, 84, rfl⟩
abbrev main_call0_call0_call0_v25 : Ref sig .tc := ⟨.hbm, 85, rfl⟩
abbrev main_call0_call0_call0_v26 : Ref sig .tc := ⟨.hbm, 86, rfl⟩
abbrev main_call0_call0_call0_v27 : Ref sig .tc := ⟨.hbm, 87, rfl⟩
abbrev main_call0_call0_call0_c_6 : Ref sig .tc := ⟨.hbm, 88, rfl⟩
abbrev main_call0_call0_call0_v28 : Ref sig .tc := ⟨.hbm, 89, rfl⟩
abbrev main_call0_call0_call0_v29 : Ref sig .tc := ⟨.hbm, 90, rfl⟩
abbrev main_call0_call0_call0_c_7 : Ref sig .tc := ⟨.hbm, 91, rfl⟩
abbrev main_call0_call0_call0_v30 : Ref sig .tc := ⟨.hbm, 92, rfl⟩
abbrev main_call0_call0_call0_v31 : Ref sig .tc := ⟨.hbm, 93, rfl⟩
abbrev main_call0_call0_call0_v32 : Ref sig .tc := ⟨.hbm, 94, rfl⟩
abbrev main_call0_call0_call0_v33 : Ref sig .tc := ⟨.hbm, 95, rfl⟩
abbrev main_call0_call0_call0_v34 : Ref sig .tc := ⟨.hbm, 96, rfl⟩
abbrev main_call0_call0_call0_v35 : Ref sig .tc := ⟨.hbm, 97, rfl⟩
abbrev main_call0_call0_call0_v36 : Ref sig .tc := ⟨.hbm, 98, rfl⟩
abbrev main_call0_call0_call0_v37 : Ref sig .tc := ⟨.hbm, 99, rfl⟩
abbrev main_call0_call0_call0_c_8 : Ref sig .tc := ⟨.hbm, 100, rfl⟩
abbrev main_call0_call0_call0_v38 : Ref sig .tc := ⟨.hbm, 101, rfl⟩
abbrev main_call0_call0_call0_v39 : Ref sig .tc := ⟨.hbm, 102, rfl⟩
abbrev main_call0_call0_call0_v40 : Ref sig .tc := ⟨.hbm, 103, rfl⟩
abbrev main_call0_call0_call0_c_9 : Ref sig .tc := ⟨.hbm, 104, rfl⟩
abbrev main_call0_call0_call0_v41 : Ref sig .tc := ⟨.hbm, 105, rfl⟩
abbrev main_call0_call0_call0_v42 : Ref sig .tc := ⟨.hbm, 106, rfl⟩
abbrev main_call0_call0_call0_c_10 : Ref sig .tc := ⟨.hbm, 107, rfl⟩
abbrev main_call0_call0_call0_v43 : Ref sig .tc := ⟨.hbm, 108, rfl⟩
abbrev main_call0_call0_call0_v44 : Ref sig .tc := ⟨.hbm, 109, rfl⟩
abbrev main_call0_call0_call0_v45 : Ref sig .tc := ⟨.hbm, 110, rfl⟩
abbrev main_call0_call0_call0_v46 : Ref sig .tc := ⟨.hbm, 111, rfl⟩
abbrev main_call0_call0_call0_v47 : Ref sig .tc := ⟨.hbm, 112, rfl⟩
abbrev main_call0_call0_call0_c_11 : Ref sig .tc := ⟨.hbm, 113, rfl⟩
abbrev main_call0_call0_call0_v48 : Ref sig .tc := ⟨.hbm, 114, rfl⟩
abbrev main_call0_call0_call0_v49 : Ref sig .tc := ⟨.hbm, 115, rfl⟩
abbrev main_call0_call0_call0_c_12 : Ref sig .tc := ⟨.hbm, 116, rfl⟩
abbrev main_call0_call0_call0_v50 : Ref sig .tc := ⟨.hbm, 117, rfl⟩
abbrev main_call0_call0_call0_v51 : Ref sig .tc := ⟨.hbm, 118, rfl⟩
abbrev main_call0_call0_call0_v52 : Ref sig .tc := ⟨.hbm, 119, rfl⟩
abbrev main_call0_call0_call0_v53 : Ref sig .tc := ⟨.hbm, 120, rfl⟩
abbrev main_call0_call0_call0_v54 : Ref sig .tc := ⟨.hbm, 121, rfl⟩
abbrev main_call0_call0_call0_c_13 : Ref sig .tc := ⟨.hbm, 122, rfl⟩
abbrev main_call0_call0_call0_v55 : Ref sig .tc := ⟨.hbm, 123, rfl⟩
abbrev main_call0_call0_call0_v56 : Ref sig .tc := ⟨.hbm, 124, rfl⟩
abbrev main_call0_call0_call0_c_14 : Ref sig .tc := ⟨.hbm, 125, rfl⟩
abbrev main_call0_call0_call0_v57 : Ref sig .tc := ⟨.hbm, 126, rfl⟩
abbrev main_call0_call0_call0_v58 : Ref sig .tc := ⟨.hbm, 127, rfl⟩
abbrev main_call0_call0_call0_v59 : Ref sig .tc := ⟨.hbm, 128, rfl⟩
abbrev main_call0_call0_call0_v60 : Ref sig .tc := ⟨.hbm, 129, rfl⟩
abbrev main_call0_call0_call0_v61 : Ref sig .tc := ⟨.hbm, 130, rfl⟩
abbrev main_call0_call0_call0_c_15 : Ref sig .tc := ⟨.hbm, 131, rfl⟩
abbrev main_call0_call0_call0_v62 : Ref sig .tc := ⟨.hbm, 132, rfl⟩
abbrev main_call0_call0_call0_v63 : Ref sig .tc := ⟨.hbm, 133, rfl⟩
abbrev main_call0_call0_call0_c_16 : Ref sig .tc := ⟨.hbm, 134, rfl⟩
abbrev main_call0_call0_call0_v64 : Ref sig .tc := ⟨.hbm, 135, rfl⟩
abbrev main_call0_call0_call0_v65 : Ref sig .tc := ⟨.hbm, 136, rfl⟩
abbrev main_call0_call0_call0_v66 : Ref sig .tc := ⟨.hbm, 137, rfl⟩
abbrev main_call0_call0_call0_v67 : Ref sig .tc := ⟨.hbm, 138, rfl⟩
abbrev main_call0_call0_call0_v68 : Ref sig .tc := ⟨.hbm, 139, rfl⟩
abbrev main_call0_call0_call0_v69 : Ref sig .tc := ⟨.hbm, 140, rfl⟩
abbrev main_call0_call0_call0_v70 : Ref sig .tc := ⟨.hbm, 141, rfl⟩
abbrev main_call0_call0_call0_v71 : Ref sig .tc := ⟨.hbm, 142, rfl⟩
abbrev main_call0_call0_call0_c_17 : Ref sig .tc := ⟨.hbm, 143, rfl⟩
abbrev main_call0_call0_call0_v72 : Ref sig .tc := ⟨.hbm, 144, rfl⟩
abbrev main_call0_call0_call0_v73 : Ref sig .tc := ⟨.hbm, 145, rfl⟩
abbrev main_call0_call0_call0_v74 : Ref sig .tc := ⟨.hbm, 146, rfl⟩
abbrev main_call0_call0_call0_c_18 : Ref sig .tc := ⟨.hbm, 147, rfl⟩
abbrev main_call0_call0_call0_v75 : Ref sig .tc := ⟨.hbm, 148, rfl⟩
abbrev main_call0_call0_call0_v76 : Ref sig .tc := ⟨.hbm, 149, rfl⟩
abbrev main_call0_call0_call0_c_19 : Ref sig .tc := ⟨.hbm, 150, rfl⟩
abbrev main_call0_call0_call0_v77 : Ref sig .tc := ⟨.hbm, 151, rfl⟩
abbrev main_call0_call0_call0_v78 : Ref sig .tc := ⟨.hbm, 152, rfl⟩
abbrev main_call0_call0_call0_v79 : Ref sig .tc := ⟨.hbm, 153, rfl⟩
abbrev main_call0_call0_call0_v80 : Ref sig .tc := ⟨.hbm, 154, rfl⟩
abbrev main_call0_call0_call0_v81 : Ref sig .tc := ⟨.hbm, 155, rfl⟩
abbrev main_call0_call0_call0_c_20 : Ref sig .tc := ⟨.hbm, 156, rfl⟩
abbrev main_call0_call0_call0_v82 : Ref sig .tc := ⟨.hbm, 157, rfl⟩
abbrev main_call0_call0_call0_v83 : Ref sig .tc := ⟨.hbm, 158, rfl⟩
abbrev main_call0_call0_call0_c_21 : Ref sig .tc := ⟨.hbm, 159, rfl⟩
abbrev main_call0_call0_call0_v84 : Ref sig .tc := ⟨.hbm, 160, rfl⟩
abbrev main_call0_call0_call0_v85 : Ref sig .tc := ⟨.hbm, 161, rfl⟩
abbrev main_call0_call0_call0_v86 : Ref sig .tc := ⟨.hbm, 162, rfl⟩
abbrev main_call0_call0_call0_v87 : Ref sig .tc := ⟨.hbm, 163, rfl⟩
abbrev main_call0_call0_call0_v88 : Ref sig .tc := ⟨.hbm, 164, rfl⟩
abbrev main_call0_call0_call0_c_22 : Ref sig .tc := ⟨.hbm, 165, rfl⟩
abbrev main_call0_call0_call0_v89 : Ref sig .tc := ⟨.hbm, 166, rfl⟩
abbrev main_call0_call0_call0_v90 : Ref sig .tc := ⟨.hbm, 167, rfl⟩
abbrev main_call0_call0_call0_c_23 : Ref sig .tc := ⟨.hbm, 168, rfl⟩
abbrev main_call0_call0_call0_v91 : Ref sig .tc := ⟨.hbm, 169, rfl⟩
abbrev main_call0_call0_call0_v92 : Ref sig .tc := ⟨.hbm, 170, rfl⟩
abbrev main_call0_call0_call0_v93 : Ref sig .tc := ⟨.hbm, 171, rfl⟩
abbrev main_call0_call0_call0_v94 : Ref sig .tc := ⟨.hbm, 172, rfl⟩
abbrev main_call0_call0_call0_v95 : Ref sig .tc := ⟨.hbm, 173, rfl⟩
abbrev main_call0_call0_call0_c_24 : Ref sig .tc := ⟨.hbm, 174, rfl⟩
abbrev main_call0_call0_call0_v96 : Ref sig .tc := ⟨.hbm, 175, rfl⟩
abbrev main_call0_call0_call0_v97 : Ref sig .tc := ⟨.hbm, 176, rfl⟩
abbrev main_call0_call0_call0_c_25 : Ref sig .tc := ⟨.hbm, 177, rfl⟩
abbrev main_call0_call0_call0_v98 : Ref sig .tc := ⟨.hbm, 178, rfl⟩
abbrev main_call0_call0_call0_v99 : Ref sig .tc := ⟨.hbm, 179, rfl⟩
abbrev main_call0_call0_call0_v100 : Ref sig .tc := ⟨.hbm, 180, rfl⟩
abbrev main_call0_call0_call0_v101 : Ref sig .tc := ⟨.hbm, 181, rfl⟩
abbrev main_call0_call0_call0_v102 : Ref sig .tc := ⟨.hbm, 182, rfl⟩
abbrev main_call0_call0_call0_v103 : Ref sig .tc := ⟨.hbm, 183, rfl⟩
abbrev main_call0_call0_call0_v104 : Ref sig .tc := ⟨.hbm, 184, rfl⟩
abbrev main_call0_call0_call0_v105 : Ref sig .tc := ⟨.hbm, 185, rfl⟩
abbrev main_call0_call0_call0_c_26 : Ref sig .tc := ⟨.hbm, 186, rfl⟩
abbrev main_call0_call0_call0_v106 : Ref sig .tc := ⟨.hbm, 187, rfl⟩
abbrev main_call0_call0_call0_v107 : Ref sig .tc := ⟨.hbm, 188, rfl⟩
abbrev main_call0_call0_call0_v108 : Ref sig .tc := ⟨.hbm, 189, rfl⟩
abbrev main_call0_call0_call0_c_27 : Ref sig .tc := ⟨.hbm, 190, rfl⟩
abbrev main_call0_call0_call0_v109 : Ref sig .tc := ⟨.hbm, 191, rfl⟩
abbrev main_call0_call0_call0_v110 : Ref sig .tc := ⟨.hbm, 192, rfl⟩
abbrev main_call0_call0_call0_c_28 : Ref sig .tc := ⟨.hbm, 193, rfl⟩
abbrev main_call0_call0_call0_v111 : Ref sig .tc := ⟨.hbm, 194, rfl⟩
abbrev main_call0_call0_call0_v112 : Ref sig .tc := ⟨.hbm, 195, rfl⟩
abbrev main_call0_call0_call0_v113 : Ref sig .tc := ⟨.hbm, 196, rfl⟩
abbrev main_call0_call0_call0_v114 : Ref sig .tc := ⟨.hbm, 197, rfl⟩
abbrev main_call0_call0_call0_v115 : Ref sig .tc := ⟨.hbm, 198, rfl⟩
abbrev main_call0_call0_call0_c_29 : Ref sig .tc := ⟨.hbm, 199, rfl⟩
abbrev main_call0_call0_call0_v116 : Ref sig .tc := ⟨.hbm, 200, rfl⟩
abbrev main_call0_call0_call0_v117 : Ref sig .tc := ⟨.hbm, 201, rfl⟩
abbrev main_call0_call0_call0_c_30 : Ref sig .tc := ⟨.hbm, 202, rfl⟩
abbrev main_call0_call0_call0_v118 : Ref sig .tc := ⟨.hbm, 203, rfl⟩
abbrev main_call0_call0_call0_v119 : Ref sig .tc := ⟨.hbm, 204, rfl⟩
abbrev main_call0_call0_call0_v120 : Ref sig .tc := ⟨.hbm, 205, rfl⟩
abbrev main_call0_call0_call0_v121 : Ref sig .tc := ⟨.hbm, 206, rfl⟩
abbrev main_call0_call0_call0_v122 : Ref sig .tc := ⟨.hbm, 207, rfl⟩
abbrev main_call0_call0_call0_c_31 : Ref sig .tc := ⟨.hbm, 208, rfl⟩
abbrev main_call0_call0_call0_v123 : Ref sig .tc := ⟨.hbm, 209, rfl⟩
abbrev main_call0_call0_call0_v124 : Ref sig .tc := ⟨.hbm, 210, rfl⟩
abbrev main_call0_call0_call0_c_32 : Ref sig .tc := ⟨.hbm, 211, rfl⟩
abbrev main_call0_call0_call0_v125 : Ref sig .tc := ⟨.hbm, 212, rfl⟩
abbrev main_call0_call0_call0_v126 : Ref sig .tc := ⟨.hbm, 213, rfl⟩
abbrev main_call0_call0_call0_v127 : Ref sig .tc := ⟨.hbm, 214, rfl⟩
abbrev main_call0_call0_call0_v128 : Ref sig .tc := ⟨.hbm, 215, rfl⟩
abbrev main_call0_call0_call0_v129 : Ref sig .tc := ⟨.hbm, 216, rfl⟩
abbrev main_call0_call0_call0_c_33 : Ref sig .tc := ⟨.hbm, 217, rfl⟩
abbrev main_call0_call0_call0_v130 : Ref sig .tc := ⟨.hbm, 218, rfl⟩
abbrev main_call0_call0_call0_v131 : Ref sig .tc := ⟨.hbm, 219, rfl⟩
abbrev main_call0_call0_call0_c_34 : Ref sig .tc := ⟨.hbm, 220, rfl⟩
abbrev main_call0_call0_call0_v132 : Ref sig .tc := ⟨.hbm, 221, rfl⟩
abbrev main_call0_call0_call0_v133 : Ref sig .tc := ⟨.hbm, 222, rfl⟩
abbrev main_call0_call0_call0_v134 : Ref sig .tc := ⟨.hbm, 223, rfl⟩
abbrev main_call0_call0_call0_v135 : Ref sig .tc := ⟨.hbm, 224, rfl⟩
abbrev main_call0_call0_call0_v136 : Ref sig .tc := ⟨.hbm, 225, rfl⟩
abbrev main_call0_call0_call0_v137 : Ref sig .tc := ⟨.hbm, 226, rfl⟩
abbrev main_call0_call0_call0_v138 : Ref sig .tc := ⟨.hbm, 227, rfl⟩
abbrev main_call0_call0_call0_v139 : Ref sig .tc := ⟨.hbm, 228, rfl⟩
abbrev main_call0_call0_call0_c_35 : Ref sig .tc := ⟨.hbm, 229, rfl⟩
abbrev main_call0_call0_call0_v140 : Ref sig .tc := ⟨.hbm, 230, rfl⟩
abbrev main_call0_call0_call0_v141 : Ref sig .tc := ⟨.hbm, 231, rfl⟩
abbrev main_call0_call0_call0_v142 : Ref sig .tc := ⟨.hbm, 232, rfl⟩
abbrev main_call0_call0_call0_c_36 : Ref sig .tc := ⟨.hbm, 233, rfl⟩
abbrev main_call0_call0_call0_v143 : Ref sig .tc := ⟨.hbm, 234, rfl⟩
abbrev main_call0_call0_call0_v144 : Ref sig .tc := ⟨.hbm, 235, rfl⟩
abbrev main_call0_call0_call0_c_37 : Ref sig .tc := ⟨.hbm, 236, rfl⟩
abbrev main_call0_call0_call0_v145 : Ref sig .tc := ⟨.hbm, 237, rfl⟩
abbrev main_call0_call0_call0_v146 : Ref sig .tc := ⟨.hbm, 238, rfl⟩
abbrev main_call0_call0_call0_v147 : Ref sig .tc := ⟨.hbm, 239, rfl⟩
abbrev main_call0_call0_call0_v148 : Ref sig .tc := ⟨.hbm, 240, rfl⟩
abbrev main_call0_call0_call0_v149 : Ref sig .tc := ⟨.hbm, 241, rfl⟩
abbrev main_call0_call0_call0_c_38 : Ref sig .tc := ⟨.hbm, 242, rfl⟩
abbrev main_call0_call0_call0_v150 : Ref sig .tc := ⟨.hbm, 243, rfl⟩
abbrev main_call0_call0_call0_v151 : Ref sig .tc := ⟨.hbm, 244, rfl⟩
abbrev main_call0_call0_call0_c_39 : Ref sig .tc := ⟨.hbm, 245, rfl⟩
abbrev main_call0_call0_call0_v152 : Ref sig .tc := ⟨.hbm, 246, rfl⟩
abbrev main_call0_call0_call0_v153 : Ref sig .tc := ⟨.hbm, 247, rfl⟩
abbrev main_call0_call0_call0_v154 : Ref sig .tc := ⟨.hbm, 248, rfl⟩
abbrev main_call0_call0_call0_v155 : Ref sig .tc := ⟨.hbm, 249, rfl⟩
abbrev main_call0_call0_call0_v156 : Ref sig .tc := ⟨.hbm, 250, rfl⟩
abbrev main_call0_call0_call0_c_40 : Ref sig .tc := ⟨.hbm, 251, rfl⟩
abbrev main_call0_call0_call0_v157 : Ref sig .tc := ⟨.hbm, 252, rfl⟩
abbrev main_call0_call0_call0_v158 : Ref sig .tc := ⟨.hbm, 253, rfl⟩
abbrev main_call0_call0_call0_c_41 : Ref sig .tc := ⟨.hbm, 254, rfl⟩
abbrev main_call0_call0_call0_v159 : Ref sig .tc := ⟨.hbm, 255, rfl⟩
abbrev main_call0_call0_call0_v160 : Ref sig .tc := ⟨.hbm, 256, rfl⟩
abbrev main_call0_call0_call0_v161 : Ref sig .tc := ⟨.hbm, 257, rfl⟩
abbrev main_call0_call0_call0_v162 : Ref sig .tc := ⟨.hbm, 258, rfl⟩
abbrev main_call0_call0_call0_v163 : Ref sig .tc := ⟨.hbm, 259, rfl⟩
abbrev main_call0_call0_call0_c_42 : Ref sig .tc := ⟨.hbm, 260, rfl⟩
abbrev main_call0_call0_call0_v164 : Ref sig .tc := ⟨.hbm, 261, rfl⟩
abbrev main_call0_call0_call0_v165 : Ref sig .tc := ⟨.hbm, 262, rfl⟩
abbrev main_call0_call0_call0_c_43 : Ref sig .tc := ⟨.hbm, 263, rfl⟩
abbrev main_call0_call0_call0_v166 : Ref sig .tc := ⟨.hbm, 264, rfl⟩
abbrev main_call0_call0_call0_v167 : Ref sig .tc := ⟨.hbm, 265, rfl⟩
abbrev main_call0_call0_call0_v168 : Ref sig .tc := ⟨.hbm, 266, rfl⟩
abbrev main_call0_call0_call0_v169 : Ref sig .tc := ⟨.hbm, 267, rfl⟩
abbrev main_call0_call0_call0_v170 : Ref sig .tc := ⟨.hbm, 268, rfl⟩
abbrev main_call0_call0_v19_0 : Ref sig .tc := ⟨.hbm, 269, rfl⟩
abbrev main_call0_call0_call0_v172 : Ref sig .tc := ⟨.hbm, 270, rfl⟩
abbrev main_call0_call0_call0_v173 : Ref sig .tc := ⟨.hbm, 271, rfl⟩
abbrev main_call0_call0_call0_c_44 : Ref sig .tc := ⟨.hbm, 272, rfl⟩
abbrev main_call0_call0_call0_v174 : Ref sig .tc := ⟨.hbm, 273, rfl⟩
abbrev main_call0_call0_v19_1 : Ref sig .tc := ⟨.hbm, 274, rfl⟩
abbrev main_call0_call0_v20 : Ref sig .tc := ⟨.hbm, 275, rfl⟩
abbrev main_call0_call0_c_2 : Ref sig .tc := ⟨.hbm, 276, rfl⟩
abbrev main_call0_call0_v21 : Ref sig .tc := ⟨.hbm, 277, rfl⟩
abbrev main_call0_call0_v22 : Ref sig .tc := ⟨.hbm, 278, rfl⟩
abbrev main_call0_call0_c_3 : Ref sig .tc := ⟨.hbm, 279, rfl⟩
abbrev main_call0_call0_v23 : Ref sig .tc := ⟨.hbm, 280, rfl⟩
abbrev main_call0_call0_v24 : Ref sig .tc := ⟨.hbm, 281, rfl⟩
abbrev main_call0_call0_v25 : Ref sig .tc := ⟨.hbm, 282, rfl⟩
abbrev main_call0_call0_cst : Ref sig .tc := ⟨.hbm, 283, rfl⟩
abbrev main_call0_call0_v26 : Ref sig .tc := ⟨.hbm, 284, rfl⟩
abbrev main_call0_call0_v27 : Ref sig .tc := ⟨.hbm, 285, rfl⟩
abbrev main_call0_call0_v28 : Ref sig .tc := ⟨.hbm, 286, rfl⟩
abbrev main_call0_call0_v29 : Ref sig .tc := ⟨.hbm, 287, rfl⟩
abbrev main_call0_call0_v30 : Ref sig .tc := ⟨.hbm, 288, rfl⟩
abbrev main_call0_call0_v31 : Ref sig .tc := ⟨.hbm, 289, rfl⟩
abbrev main_call0_call0_v32 : Ref sig .tc := ⟨.hbm, 290, rfl⟩
abbrev main_call0_call0_v33 : Ref sig .tc := ⟨.hbm, 291, rfl⟩
abbrev main_call0_v0 : Ref sig .tc := ⟨.hbm, 292, rfl⟩
abbrev main_call0_v1 : Ref sig .tc := ⟨.hbm, 293, rfl⟩
abbrev main_call0_v2 : Ref sig .tc := ⟨.hbm, 294, rfl⟩
abbrev main_v21 : Ref sig .tc := ⟨.hbm, 295, rfl⟩
abbrev main_cst_4 : Ref sig .tc := ⟨.hbm, 296, rfl⟩
abbrev main_v22 : Ref sig .tc := ⟨.hbm, 297, rfl⟩
abbrev main_v23 : Ref sig .tc := ⟨.hbm, 298, rfl⟩
abbrev main_v24 : Ref sig .tc := ⟨.hbm, 299, rfl⟩
abbrev main_call1_v0 : Ref sig .tc := ⟨.hbm, 300, rfl⟩
abbrev main_call1_cst : Ref sig .tc := ⟨.hbm, 301, rfl⟩
abbrev main_call1_c : Ref sig .tc := ⟨.hbm, 302, rfl⟩
abbrev main_call1_v1_0 : Ref sig .tc := ⟨.hbm, 303, rfl⟩
abbrev main_v25 : Ref sig .tc := ⟨.hbm, 304, rfl⟩

abbrev nD : Nat := 1
abbrev τ : Topo := Topo.v7x

variable {F : FTy → Type} [FloatOps F]
-- ==== Proof.KernelIdeal.Table.lean ====
/-
  The first launch: what its body writes, and its proof data.

  At grid point `t` the body writes one whole block of 64 × 16384 numbers, a function of the block's column number alone.
  `tableBlock` names that block, `table_body` runs the body, and `dat0` is the launch's account for the pipeline library.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Frame
public import Idealize.ShloMosaic.Lib.Pipeline.FrameBody
public import Idealize.ShloMosaic.Lib.VecWindow
public import Idealize.ShloMosaic.Lib.Claim
public import Idealize.ShloMosaic.Lib.Ring
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- The third key word of the generator: the two key words and a constant, combined by exclusive or. -/
def keyWord : BitVec 32 := Scalar.xori (Scalar.xori 0#32 42#32) 466688986#32

/-- The first half of the generator's rounds on block `i`: its two running words. -/
def midA (i : grid0.Coords) : IVec S64x16384 32 := k0_pay20 keyWord (k0_pay9 i) (k0_pay10 i)
/-- The second of the two running words. -/
def midB (i : grid0.Coords) : IVec S64x16384 32 := k0_pay21 keyWord (k0_pay9 i) (k0_pay10 i)
/-- The two words the generator leaves on block `i`, before the last key word is added to each. -/
def endA (i : grid0.Coords) : IVec S64x16384 32 :=
  k0_pay45 keyWord (k0_pay32 (midA i) (midB i)) (k0_pay33 (midA i) (midB i)) (k0_pay34 (midA i) (midB i)) 16#32
/-- The second of the two. -/
def endB (i : grid0.Coords) : IVec S64x16384 32 :=
  k0_pay46 keyWord (k0_pay32 (midA i) (midB i)) (k0_pay33 (midA i) (midB i)) (k0_pay34 (midA i) (midB i)) 16#32

/-- The block of the table that the body writes at grid coordinates `i`. -/
def tableBlock (i : grid0.Coords) : Vec F S64x16384 .f32 := k0_pay1 (F := F) (endA i) (endB i) 0#32

set_option maxHeartbeats 1000000 in
/-- The body of the first launch on a whole staging buffer holding anything leaves `tableBlock` in it. -/
theorem table_body (c : Dev nD) (E : Set ℕ) (i : grid0.Coords) (out : Memref sig .tc .vmem S64x16384 .f32) (hout : out.IsWhole)
    (K : PUnit → sProp 𝕄) :
    iprop((∃ d, owns (c : Thread nD τ) out fullShare d) ∗ (owns (c : Thread nD τ) out fullShare (tableBlock i) -∗ K ⟨⟩))
      ⊢ wp frame (wpE (defs₀ (F := F)) Variants.none c none) E (cc0__gumbel_table_kernel i out hout) K := by
  simp only [cc0__gumbel_table_kernel_eq_skeleton]; unfold cc0__gumbel_table_kernel_skel
  simp only [k0_part1_eq_skeleton, k0_part2_eq_skeleton, k0_part3_eq_skeleton, k0_part4_eq_skeleton]
  unfold owns
  iintro ⟨⟨%d, %f, -, H⟩, Hk⟩
  sl_exec
  sl_step
  iapply Hk
  iexists _; isplitr
  swap; · iexact H
  ipureintro
  exact View.read_writes_full _ _ _ _ _

/-- The account of the first launch entered with the buffers at `W`: the table's array as found, each point's block left at
    `tableBlock`, nothing carried. -/
def dat0 (W : Valuation τ sig (Elt F)) (c : Dev nD) : Dat τ (Elt F) Unit ℕ (UR sig nD τ) ℕ cfg0 c where
  A w := W (Proc.devRef .tc (Pipeline.arrRef spec0 w))
  after w t := match w with
    | ⟨0, _⟩ => tableBlock (grid0.coords t)
  Φ _ := Pipeline.ΦA spec0 c
  q _ := fullShare
  owed _ := 0

/-- What the account says of the one window after point `t`. -/
theorem dat0_after (W : Valuation τ sig (Elt F)) (c : Dev nD) (t : Fin cfg0.N) :
    (dat0 W c).after 0 t = tableBlock (grid0.coords t) := by dsimp only [dat0]

set_option maxHeartbeats 1000000 in
/-- The body does at every point what the account says. -/
theorem body0 (W : Valuation τ sig (Elt F)) (c : Dev nD) :
    BodyObligation (dat0 W c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  have key : iprop((dat0 W c).Φ t.castSucc ∗ (dat0 W c).owesAt () t.castSucc
        ∗ (∃ d, owns (c : Thread nD τ) (st0_0 t) fullShare ((dat0 W c).before 0 t d)))
      ⊢ wp frame (wpE (defs₀ (F := F)) Variants.none c none) Set.univ (bodyAt0 t)
        (fun _ => iprop((dat0 W c).Φ t.succ ∗ (dat0 W c).owesAt () t.succ
          ∗ owns (c : Thread nD τ) (st0_0 t) fullShare ((dat0 W c).after 0 t))) := by
    rw [show (dat0 W c).Φ t.succ = (dat0 W c).Φ t.castSucc from rfl,
      show (dat0 W c).owesAt () t.succ = (dat0 W c).owesAt () t.castSucc from rfl, dat0_after]
    unfold bodyAt0
    iintro ⟨HΦ, Ho, ⟨%d, H⟩⟩
    iapply (table_body c Set.univ (grid0.coords t) _ _ _)
    isplitl [H]; · iexists _; iexact H
    iintro H
    isplitl [HΦ]; · iexact HΦ
    isplitl [Ho]; · iexact Ho
    iexact H
  exact triple_restated key rfl .rfl fun _ => .rfl

end Cert.KernelIdeal.Hand

end
-- ==== Proof.KernelIdeal.SampleBody.lean ====
/-
  The second launch: one run of its body.

  The body keeps two small buffers between grid points, the best score of each of 8 rows so far and the column it was found at.
  `sample_body` says what one run leaves in them, and in the output's staging buffer, from what it found.
-/
module

public import proofs.«01_k».proof.Proof.KernelIdeal.Table

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- The body's first condition: this is the first column block. -/
abbrev isFirst (i : grid1.Coords) : Prop :=
  (Scalar.cmpi .ne (Scalar.extui (Scalar.cmpi .eq (BitVec.ofNat 32 (i 1).val) 0#32)) 0#32) = 1#1

/-- The body's last condition: this is the last column block. -/
abbrev isLast (i : grid1.Coords) : Prop := k1_cond2 i = 1#1

/-- The best scores the body compares with: those it found, reset at the first column block. -/
def startVal (i : grid1.Coords) (s : Vec F S8x1 .f32) : Vec F S8x1 .f32 := if isFirst i then k1_pay2 (F := F) else s

/-- The columns they were found at, reset at the first column block. -/
def startIdx (i : grid1.Coords) (k : Vec F S8x1 .i32) : Vec F S8x1 .i32 := if isFirst i then k1_pay3 else k

/-- The best scores after the block of scores made of `x`, `g` and `t`. -/
def stepVal (i : grid1.Coords) (x g : Vec F S8x262144 .f32) (t : Vec F S8x1 .f32) (s : Vec F S8x1 .f32) : Vec F S8x1 .f32 :=
  k1_pay1 (k1_pay6 i x t g) (k1_pay7 i x t g (startVal i s)) (startVal i s)

/-- The columns they were found at. -/
def stepIdx (i : grid1.Coords) (x g : Vec F S8x262144 .f32) (t : Vec F S8x1 .f32) (s : Vec F S8x1 .f32) (k : Vec F S8x1 .i32) :
    Vec F S8x1 .i32 :=
  k1_pay8 i x t g (startVal i s) (startIdx (F := F) i k)

/-- A load of a whole staging buffer reads what it holds. -/
theorem load_whole {sp : Space} {S : Shape} {e : EltTy} (a : Memref sig .tc sp S e) (h : a.IsWhole) (x : S.Idx → Elt F e)
    {off : Fin S.rank → ℕ} (inb : ∀ b, off b + S.size b ≤ S.size b) :
    View.readAt (Elt F) a.view (Rect.unit off S.size inb).toLoadRect (h.unread x) = x :=
  (View.readAt_full _ _ _).trans (h.read_unread x)

/-- The step of the best scores depends on what the loads read alone. -/
theorem pay1_congr (i : grid1.Coords) {x x' g g' : Vec F S8x262144 .f32} {t t' s s' r r' : Vec F S8x1 .f32}
    (hx : x' = x) (hg : g' = g) (ht : t' = t) (hs : s' = s) (hr : r' = r) :
    k1_pay1 (k1_pay6 i x' t' g') (k1_pay7 i x' t' g' s') r' = k1_pay1 (k1_pay6 i x t g) (k1_pay7 i x t g s) r := by
  subst hx hg ht hs hr; rfl

/-- The step of the columns depends on what the loads read alone. -/
theorem pay8_congr (i : grid1.Coords) {x x' g g' : Vec F S8x262144 .f32} {t t' s s' : Vec F S8x1 .f32} {k k' : Vec F S8x1 .i32}
    (hx : x' = x) (hg : g' = g) (ht : t' = t) (hs : s' = s) (hk : k' = k) :
    k1_pay8 i x' t' g' s' k' = k1_pay8 i x t g s k := by
  subst hx hg ht hs hk; rfl

set_option maxHeartbeats 4000000 in
/-- One run of the body: the three inputs stay, the two carried buffers take one step, and the output's buffer takes the
    columns at the last column block and stays as it was at the others. -/
theorem sample_body (c : Dev nD) (E : Set ℕ) (i : grid1.Coords)
    (a2 : Memref sig .tc .vmem S8x262144 .f32) (h2 : a2.IsWhole) (a3 : Memref sig .tc .vmem S8x262144 .f32) (h3 : a3.IsWhole)
    (a4 : Memref sig .tc .vmem S8x1 .f32) (h4 : a4.IsWhole) (a5 : Memref sig .tc .vmem S8x1 .i32) (h5 : a5.IsWhole)
    (a6 : Memref sig .tc .vmem S8x1 .f32) (h6 : a6.IsWhole) (a7 : Memref sig .tc .vmem S8x1 .i32) (h7 : a7.IsWhole)
    (x g : Vec F S8x262144 .f32) (t s : Vec F S8x1 .f32) (k d : Vec F S8x1 .i32) (K : PUnit → sProp 𝕄) :
    iprop(owns (c : Thread nD τ) a2 fullShare x ∗ owns (c : Thread nD τ) a3 fullShare g ∗ owns (c : Thread nD τ) a4 fullShare t
        ∗ owns (c : Thread nD τ) a5 fullShare d ∗ owns (c : Thread nD τ) a6 fullShare s ∗ owns (c : Thread nD τ) a7 fullShare k
        ∗ (iprop(owns (c : Thread nD τ) a2 fullShare x ∗ owns (c : Thread nD τ) a3 fullShare g ∗ owns (c : Thread nD τ) a4 fullShare t
            ∗ owns (c : Thread nD τ) a5 fullShare (if isLast i then stepIdx i x g t s k else d)
            ∗ owns (c : Thread nD τ) a6 fullShare (stepVal i x g t s)
            ∗ owns (c : Thread nD τ) a7 fullShare (stepIdx i x g t s k)) -∗ K ⟨⟩))
      ⊢ wp frame (wpE (defs₀ (F := F)) Variants.none c none) E (cc1__sample_kernel i a2 h2 a3 h3 a4 h4 a5 h5 a6 h6 a7 h7) K := by
  simp only [cc1__sample_kernel_eq_skeleton]; unfold cc1__sample_kernel_skel
  simp only [k1_part1_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, Hk⟩
  obtain rfl := h2.eq_unread e2; obtain rfl := h3.eq_unread e3; obtain rfl := h4.eq_unread e4
  obtain rfl := h5.eq_unread e5; obtain rfl := h6.eq_unread e6; obtain rfl := h7.eq_unread e7
  by_cases hf : isFirst i <;> by_cases hl : isLast i
  · -- the first column block, the last
    rw [if_pos hl, show stepVal i x g t s = k1_pay1 (k1_pay6 i x t g) (k1_pay7 i x t g k1_pay2) k1_pay2 by
        unfold stepVal startVal; rw [if_pos hf],
      show stepIdx i x g t s k = k1_pay8 i x t g k1_pay2 k1_pay3 by
        unfold stepIdx startVal startIdx; rw [if_pos hf, if_pos hf]]
    sl_exec (disch := first | sl_exact hf | sl_exact hl)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; swap; · iexact H5
      ipureintro
      exact (View.read_writes_full _ _ _ _ _).trans ((View.readCov_full _ _ _ _ _).trans (pay8_congr i (load_whole a2 h2 x _) (load_whole a3 h3 g _) (load_whole a4 h4 t _) (View.readCov_full _ _ _ _ _) (View.readCov_full _ _ _ _ _)))
    isplitl [H6]
    · iexists _; isplitr; swap; · iexact H6
      ipureintro
      exact (View.read_writes_full _ _ _ _ _).trans (pay1_congr i (load_whole a2 h2 x _) (load_whole a3 h3 g _) (load_whole a4 h4 t _) (View.readCov_full _ _ _ _ _) (View.readCov_full _ _ _ _ _))
    iexists _; isplitr; swap; · iexact H7
    ipureintro
    exact (View.read_writes_full _ _ _ _ _).trans (pay8_congr i (load_whole a2 h2 x _) (load_whole a3 h3 g _) (load_whole a4 h4 t _) (View.readCov_full _ _ _ _ _) (View.readCov_full _ _ _ _ _))
  · -- the first column block, not the last
    rw [if_neg hl, show stepVal i x g t s = k1_pay1 (k1_pay6 i x t g) (k1_pay7 i x t g k1_pay2) k1_pay2 by
        unfold stepVal startVal; rw [if_pos hf],
      show stepIdx i x g t s k = k1_pay8 i x t g k1_pay2 k1_pay3 by
        unfold stepIdx startVal startIdx; rw [if_pos hf, if_pos hf]]
    sl_exec (disch := first | sl_exact hf | sl_exact hl)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; swap; · iexact H5
      ipureintro
      exact h5.read_unread d
    isplitl [H6]
    · iexists _; isplitr; swap; · iexact H6
      ipureintro
      exact (View.read_writes_full _ _ _ _ _).trans (pay1_congr i (load_whole a2 h2 x _) (load_whole a3 h3 g _) (load_whole a4 h4 t _) (View.readCov_full _ _ _ _ _) (View.readCov_full _ _ _ _ _))
    iexists _; isplitr; swap; · iexact H7
    ipureintro
    exact (View.read_writes_full _ _ _ _ _).trans (pay8_congr i (load_whole a2 h2 x _) (load_whole a3 h3 g _) (load_whole a4 h4 t _) (View.readCov_full _ _ _ _ _) (View.readCov_full _ _ _ _ _))
  · -- not the first column block, the last
    rw [if_pos hl, show stepVal i x g t s = k1_pay1 (k1_pay6 i x t g) (k1_pay7 i x t g s) s by
        unfold stepVal startVal; rw [if_neg hf],
      show stepIdx i x g t s k = k1_pay8 i x t g s k by
        unfold stepIdx startVal startIdx; rw [if_neg hf, if_neg hf]]
    sl_exec (disch := first | sl_exact hf | sl_exact hl)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; swap; · iexact H5
      ipureintro
      exact (View.read_writes_full _ _ _ _ _).trans ((View.readCov_full _ _ _ _ _).trans (pay8_congr i (load_whole a2 h2 x _) (load_whole a3 h3 g _) (load_whole a4 h4 t _) (load_whole a6 h6 s _) (load_whole a7 h7 k _)))
    isplitl [H6]
    · iexists _; isplitr; swap; · iexact H6
      ipureintro
      exact (View.read_writes_full _ _ _ _ _).trans (pay1_congr i (load_whole a2 h2 x _) (load_whole a3 h3 g _) (load_whole a4 h4 t _) (load_whole a6 h6 s _) (load_whole a6 h6 s _))
    iexists _; isplitr; swap; · iexact H7
    ipureintro
    exact (View.read_writes_full _ _ _ _ _).trans (pay8_congr i (load_whole a2 h2 x _) (load_whole a3 h3 g _) (load_whole a4 h4 t _) (load_whole a6 h6 s _) (load_whole a7 h7 k _))
  · -- not the first column block, not the last
    rw [if_neg hl, show stepVal i x g t s = k1_pay1 (k1_pay6 i x t g) (k1_pay7 i x t g s) s by
        unfold stepVal startVal; rw [if_neg hf],
      show stepIdx i x g t s k = k1_pay8 i x t g s k by
        unfold stepIdx startVal startIdx; rw [if_neg hf, if_neg hf]]
    sl_exec (disch := first | sl_exact hf | sl_exact hl)
    sl_step
    iapply Hk
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; swap; · iexact H5
      ipureintro
      exact h5.read_unread d
    isplitl [H6]
    · iexists _; isplitr; swap; · iexact H6
      ipureintro
      exact (View.read_writes_full _ _ _ _ _).trans (pay1_congr i (load_whole a2 h2 x _) (load_whole a3 h3 g _) (load_whole a4 h4 t _) (load_whole a6 h6 s _) (load_whole a6 h6 s _))
    iexists _; isplitr; swap; · iexact H7
    ipureintro
    exact (View.read_writes_full _ _ _ _ _).trans (pay8_congr i (load_whole a2 h2 x _) (load_whole a3 h3 g _) (load_whole a4 h4 t _) (load_whole a6 h6 s _) (load_whole a7 h7 k _))

end Cert.KernelIdeal.Hand

end
-- ==== Proof.KernelIdeal.Score.lean ====
/-
  The second launch: the scores of one block, and why its overhanging part does not matter.

  The last of the four column blocks of 262144 columns reaches past the array's 1000000 columns.  The body gives every column past the end
  the score minus infinity, so what the staging buffers hold there does not reach any result.
-/
module

public import proofs.«01_k».proof.Proof.KernelIdeal.SampleBody
public import Idealize.ShloMosaic.Lib.Pipeline.ClipFacts
public import Idealize.ShloMosaic.Lib.Pipeline.Value
public import Idealize.ShloMosaic.Lib.Pipeline.ValueKit.Basic

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The number of the array's column that a block's column `j 1` stands for. -/
def colNat (i : grid1.Coords) (j : S8x262144.Idx) : ℕ := (j 1).val + (i 1).val * 262144

/-- It fits a word with room to spare. -/
theorem colNat_lt (i : grid1.Coords) (j : S8x262144.Idx) : colNat i j < 1048576 := by
  have h1 : (j 1).val < 262144 := (j 1).isLt
  have h2 : (i 1).val < 4 := (i 1).isLt
  unfold colNat; omega

/-- The body's column words are those numbers. -/
theorem col_eq (i : grid1.Coords) (j : S8x262144.Idx) : k1_pay4 i j = BitVec.ofNat 32 (colNat i j) := by
  unfold k1_pay4
  show iota .tc S8x262144 32 [1] iota_S8x262144_d1_w32 j + BitVec.ofNat 32 (i 1).val * 262144#32 = _
  rw [iota_single_apply, colNat, BitVec.ofNat_add, BitVec.ofNat_mul]

/-- A row's cell in a buffer of one column. -/
def cell {n : ℕ} (r : Fin n) : (⟨2, ![n, 1]⟩ : Shape).Idx := fun | 0 => r | 1 => (0 : Fin 1)

/-- The body's mask: whether a block's column lies inside the array. -/
theorem mask_eq (i : grid1.Coords) (j : S8x262144.Idx) :
    IntOp.cmpi .slt (k1_pay4 i j) 1000000#32 = if colNat i j < 1000000 then 1#1 else 0#1 := by
  have hc := colNat_lt i j
  rw [col_eq]
  have h : (BitVec.ofNat 32 (colNat i j)).slt 1000000#32 = decide (colNat i j < 1000000) := by
    rw [BitVec.slt_eq_decide, BitVec.toInt_eq_toNat_of_lt, BitVec.toInt_eq_toNat_of_lt]
    · simp only [BitVec.toNat_ofNat, Nat.mod_eq_of_lt (show colNat i j < 2 ^ 32 by omega)]
      exact decide_eq_decide.mpr Int.ofNat_lt
    · decide
    · simp only [BitVec.toNat_ofNat, Nat.mod_eq_of_lt (show colNat i j < 2 ^ 32 by omega)]; omega
  show BitVec.ofBool _ = _
  rw [h]
  by_cases hlt : colNat i j < 1000000
  · rw [if_pos hlt, decide_eq_true hlt]; rfl
  · rw [if_neg hlt, decide_eq_false hlt]; rfl

/-- The score of a block's entry: the logit plus the temperature times the table's entry inside the array, minus infinity past its end. -/
theorem score_apply (i : grid1.Coords) (x g : Vec F S8x262144 .f32) (t : Vec F S8x1 .f32) (j : S8x262144.Idx) :
    k1_pay5 i x t g j = if colNat i j < 1000000 then FloatOps.addf (x j) (FloatOps.mulf (t (cell (j 0))) (g j))
      else FloatOps.ofBits .f32 0xFF800000#32 := by
  have e : k1_pay5 i x t g j =
      Scalar.select (IntOp.cmpi .slt (k1_pay4 i j) 1000000#32)
      (addf x (mulf (broadcastTo S8x262144 (shapeCast S8x1 t shapeCasts_S8x1_S8x1) broadcasts_S8x1_S8x262144)
        (shapeCast S8x262144 g shapeCasts_S8x262144_S8x262144)) j)
      (FloatOps.ofBits .f32 0xFF800000#32) := by unfold k1_pay5 select cmpi broadcast; rfl
  have e' : k1_pay5 i x t g j = Scalar.select (IntOp.cmpi .slt (k1_pay4 i j) 1000000#32)
      (FloatOps.addf (x j) (FloatOps.mulf (broadcastTo S8x262144 (shapeCast S8x1 t shapeCasts_S8x1_S8x1) broadcasts_S8x1_S8x262144 j)
        (shapeCast S8x262144 g shapeCasts_S8x262144_S8x262144 j)))
      (FloatOps.ofBits .f32 0xFF800000#32) := by rw [e]; unfold addf mulf; rfl
  rw [e', mask_eq, shapeCast_self, shapeCast_self,
    broadcastTo_apply t broadcasts_S8x1_S8x262144 j (cell (j 0)) (fun a => by fin_cases a <;> rfl)]
  by_cases hlt : colNat i j < 1000000
  · rw [if_pos hlt, if_pos hlt]; exact if_pos rfl
  · rw [if_neg hlt, if_neg hlt]; exact if_neg (by decide)

/-- A column of the block inside the array lies before the block's cut. -/
theorem extent_gt {k d n c : ℕ} (hk : c < k) (h : c + n * k < d) : c < (Pipeline.Clip.of n k d).extent k := by
  unfold Pipeline.Clip.of
  split
  · exact hk
  · show c < d - n * k; omega

/-- An entry of a block inside the array lies in the part of the block that the fetch fills: for the logits, -/
theorem moved0 (i : grid1.Coords) (j : S8x262144.Idx) (h : colNat i j < 1000000) : (cfg1.win 0).moved i j = true := by
  rw [Pipeline.Window.moved_iff]
  have h0 : (i 0).val < 8 := (i 0).isLt
  have h1 : (i 1).val < 4 := (i 1).isLt
  have j0 : (j 0).val < 8 := (j 0).isLt
  have j1 : (j 1).val < 262144 := (j 1).isLt
  unfold colNat at h
  intro a
  fin_cases a
  · have e : (cfg1.win 0).xsize i 0 = (Pipeline.Clip.of (cc1_transform_0 i 0) (S8x262144.size 0) (S64x1000000.size 0)).extent (S8x262144.size 0) := rfl
    rw [show cc1_transform_0 i 0 = (BitVec.ofNat 32 (i 0).val).toNat from rfl, BitVec.toNat_ofNat, Nat.mod_eq_of_lt (by omega),
      Pipeline.Clip.extent_of_inb (show ((i 0).val + 1) * S8x262144.size 0 ≤ S64x1000000.size 0 from (show ((i 0).val + 1) * 8 ≤ 64 by omega))] at e
    exact lt_of_lt_of_eq j0 e.symm
  · have e : (cfg1.win 0).xsize i 1 = (Pipeline.Clip.of (cc1_transform_0 i 1) (S8x262144.size 1) (S64x1000000.size 1)).extent (S8x262144.size 1) := rfl
    rw [show cc1_transform_0 i 1 = (BitVec.ofNat 32 (i 1).val).toNat from rfl, BitVec.toNat_ofNat, Nat.mod_eq_of_lt (by omega)] at e
    exact lt_of_lt_of_eq (extent_gt j1 h) e.symm

/-- and for the table. -/
theorem moved1 (i : grid1.Coords) (j : S8x262144.Idx) (h : colNat i j < 1000000) : (cfg1.win 1).moved i j = true := moved0 i j h

/-- What stands past the array's end in the two staging buffers does not reach the scores. -/
theorem score_fill (i : grid1.Coords) (t : Vec F S8x1 .f32) (X : ((cfg1.win 0).xblock i).Idx → Elt F .f32) (G : ((cfg1.win 1).xblock i).Idx → Elt F .f32)
    (d d' e e' : Vec F S8x262144 .f32) :
    k1_pay5 i ((cfg1.win 0).fill i d X) t ((cfg1.win 1).fill i e G) = k1_pay5 i ((cfg1.win 0).fill i d' X) t ((cfg1.win 1).fill i e' G) := by
  funext j
  rw [score_apply, score_apply]
  by_cases h : colNat i j < 1000000
  · rw [if_pos h, if_pos h]
    unfold Pipeline.Window.fill
    rw [dif_pos (moved0 i j h), dif_pos (moved0 i j h), dif_pos (moved1 i j h), dif_pos (moved1 i j h)]
  · rw [if_neg h, if_neg h]

/-- Equal scores give equal best scores -/
theorem stepVal_congr (i : grid1.Coords) {x x' g g' : Vec F S8x262144 .f32} (t s : Vec F S8x1 .f32)
    (h : k1_pay5 i x t g = k1_pay5 i x' t g') : stepVal i x g t s = stepVal i x' g' t s := by
  unfold stepVal k1_pay7 k1_pay6; rw [h]

/-- and equal columns. -/
theorem stepIdx_congr (i : grid1.Coords) {x x' g g' : Vec F S8x262144 .f32} (t s : Vec F S8x1 .f32) (k : Vec F S8x1 .i32)
    (h : k1_pay5 i x t g = k1_pay5 i x' t g') : stepIdx i x g t s k = stepIdx i x' g' t s k := by
  unfold stepIdx k1_pay8 k1_pay7 k1_pay6; rw [h]

end Cert.KernelIdeal.Hand

end
-- ==== Proof.KernelIdeal.Sample.lean ====
/-
  The second launch: its proof data and its body at every grid point.

  `carried` is what the two carried buffers hold before each point: the fold of `stepVal` and `stepIdx` over the points before it.
-/
module

public import proofs.«01_k».proof.Proof.KernelIdeal.Score

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F]

local notation "𝕄" => MT nD τ sig Unit (Elt F) ℕ (UR sig nD τ) ℕ

/-- A window's block at point `t`, read off the array that the region finds. -/
def blockAt (W : Valuation τ sig (Elt F)) (w : Fin cfg1.W) (t : Fin cfg1.N) :
    ((cfg1.win w).xblock (grid1.coords t)).Idx → Elt F (cfg1.win w).elt :=
  ((cfg1.win w).blk t).view.read (Elt F) (W (Proc.devRef .tc (Pipeline.arrRef spec1 w)))

/-- Something to stand in a staging buffer where no fetch fills it. -/
def filler : Vec F S8x262144 .f32 := broadcast S8x262144 (FloatOps.ofBits .f32 0#32)

/-- The logits' staging buffer at point `t`, with the filler past the array's end; -/
def inX (W : Valuation τ sig (Elt F)) (t : Fin cfg1.N) : Vec F S8x262144 .f32 := (cfg1.win 0).fill (grid1.coords t) filler (blockAt W 0 t)
/-- the table's; -/
def inG (W : Valuation τ sig (Elt F)) (t : Fin cfg1.N) : Vec F S8x262144 .f32 := (cfg1.win 1).fill (grid1.coords t) filler (blockAt W 1 t)
/-- the temperatures'. -/
def inT (W : Valuation τ sig (Elt F)) (t : Fin cfg1.N) : Vec F S8x1 .f32 := blockAt W 2 t

/-- The two carried buffers after the first `n` points. -/
def carried (W : Valuation τ sig (Elt F)) : ℕ → Vec F S8x1 .f32 × Vec F S8x1 .i32
  | 0 => (k1_pay2 (F := F), k1_pay3)
  | n + 1 =>
    if h : n < cfg1.N then
      (stepVal (grid1.coords ⟨n, h⟩) (inX W ⟨n, h⟩) (inG W ⟨n, h⟩) (inT W ⟨n, h⟩) (carried W n).1,
        stepIdx (grid1.coords ⟨n, h⟩) (inX W ⟨n, h⟩) (inG W ⟨n, h⟩) (inT W ⟨n, h⟩) (carried W n).1 (carried W n).2)
    else carried W n

/-- One more point is one more step. -/
theorem carried_succ (W : Valuation τ sig (Elt F)) (t : Fin cfg1.N) :
    carried W (t.val + 1) = (stepVal (grid1.coords t) (inX W t) (inG W t) (inT W t) (carried W t.val).1,
      stepIdx (grid1.coords t) (inX W t) (inG W t) (inT W t) (carried W t.val).1 (carried W t.val).2) := by
  rw [carried, dif_pos t.isLt]

/-- The first point is at the first column block. -/
theorem isFirst_zero (t : Fin cfg1.N) (h : t.val = 0) : isFirst (grid1.coords t) := by
  have e : (grid1.coords t 1).val = t.val / 1 % 4 := Pipeline.Grid.coords_val t 1 (by decide) rfl
  unfold isFirst
  rw [e, h]; decide

/-- The first launch's staging buffers, holding anything: this launch does not use them. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ r, prngReg c r))

/-- What stands between points: the two carried buffers at `carried`, except before the first point, where they hold anything. -/
def between (W : Valuation τ sig (Elt F)) (c : Dev nD) (n : ℕ) : sProp 𝕄 :=
  iprop((∃ s k, ⌜n ≠ 0 → (s, k) = carried W n⌝ ∗ owns (c : Thread nD τ) (Memref.whole cc1_scratch0) fullShare s
    ∗ owns (c : Thread nD τ) (Memref.whole cc1_scratch1) fullShare k) ∗ others c)

/-- The account of the second launch entered with the buffers at `W`. -/
def dat1 (W : Valuation τ sig (Elt F)) (c : Dev nD) : Dat τ (Elt F) Unit ℕ (UR sig nD τ) ℕ cfg1 c where
  A w := W (Proc.devRef .tc (Pipeline.arrRef spec1 w))
  after w t := match w with
    | ⟨0, _⟩ => inX W t
    | ⟨1, _⟩ => inG W t
    | ⟨2, _⟩ => inT W t
    | ⟨3, _⟩ => (carried W (t.val + 1)).2
  Φ n := between W c n.val
  q _ := fullShare
  owed _ := 0

section

variable (W : Valuation τ sig (Elt F)) (c : Dev nD) (t : Fin cfg1.N)

theorem dat1_after0 : (dat1 W c).after 0 t = inX W t := by dsimp only [dat1]
theorem dat1_after1 : (dat1 W c).after 1 t = inG W t := by dsimp only [dat1]
theorem dat1_after2 : (dat1 W c).after 2 t = inT W t := by dsimp only [dat1]
theorem dat1_after3 : (dat1 W c).after 3 t = (carried W (t.val + 1)).2 := by dsimp only [dat1]

/-- The logits' buffer when the body runs: the block where the fetch fills it. -/
theorem before1_0 (d : Vec F S8x262144 .f32) :
    (dat1 W c).before 0 t d = (cfg1.win 0).fill (grid1.coords t) d (blockAt W 0 t) :=
  (dat1 W c).before_fetched 0 t (fetch1_0 t) d

/-- The table's likewise. -/
theorem before1_1 (d : Vec F S8x262144 .f32) :
    (dat1 W c).before 1 t d = (cfg1.win 1).fill (grid1.coords t) d (blockAt W 1 t) :=
  (dat1 W c).before_fetched 1 t (fetch1_1 t) d

/-- The temperatures' buffer holds its block at every point, fetched there or not. -/
theorem before1_2 (d : Vec F S8x1 .f32) : (dat1 W c).before 2 t d = inT W t :=
  (dat1 W c).before_in_eq_fetched 2 rfl (fun _ => rfl) (fun _ _ _ => rfl) (fun t => by rw [dat1_after2]; rfl) t d

/-- What the body leaves of a block is that block where the transfer moves it. -/
theorem cut_inX : (cfg1.win 0).cut (grid1.coords t) (inX W t) = blockAt W 0 t := (cfg1.win 0).cut_fill _ _ _
theorem cut_inG : (cfg1.win 1).cut (grid1.coords t) (inG W t) = blockAt W 1 t := (cfg1.win 1).cut_fill _ _ _

end

set_option maxHeartbeats 1000000 in
/-- The body does at every point what the account says. -/
theorem body1 (W : Valuation τ sig (Elt F)) (c : Dev nD) :
    BodyObligationLoose (dat1 W c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  have key : iprop((dat1 W c).Φ t.castSucc ∗ (dat1 W c).owesAt () t.castSucc
        ∗ (∃ d, owns (c : Thread nD τ) (st1_0 t) fullShare ((dat1 W c).before 0 t d))
        ∗ (∃ d, owns (c : Thread nD τ) (st1_1 t) fullShare ((dat1 W c).before 1 t d))
        ∗ (∃ d, owns (c : Thread nD τ) (st1_2 t) fullShare ((dat1 W c).before 2 t d))
        ∗ (∃ d, owns (c : Thread nD τ) (st1_3 t) fullShare ((dat1 W c).before 3 t d)))
      ⊢ wp frame (wpE (defs₀ (F := F)) Variants.none c none) Set.univ (bodyAt1 t)
        (fun _ => iprop((dat1 W c).Φ t.succ ∗ (dat1 W c).owesAt () t.succ
          ∗ (dat1 W c).leaves 0 t ∗ (dat1 W c).leaves 1 t ∗ (dat1 W c).leaves 2 t ∗ (dat1 W c).leaves 3 t)) := by
    rw [show (dat1 W c).Φ t.castSucc = between W c t.val from rfl, show (dat1 W c).Φ t.succ = between W c (t.val + 1) from rfl,
      show (dat1 W c).owesAt () t.succ = (dat1 W c).owesAt () t.castSucc from rfl]
    unfold between bodyAt1
    iintro ⟨⟨⟨%s, %k, %hs, Hs, Hk⟩, HO⟩, Ho, ⟨%d0, H0⟩, ⟨%d1, H1⟩, ⟨%d2, H2⟩, ⟨%d3, H3⟩⟩
    rw [before1_0, before1_1, before1_2]
    iapply (sample_body c Set.univ (grid1.coords t) _ _ _ _ _ _ _ _ _ _ _ _ _ _ _ _ _ _ _)
    isplitl [H0]; · iexact H0
    isplitl [H1]; · iexact H1
    isplitl [H2]; · iexact H2
    isplitl [H3]; · iexact H3
    isplitl [Hs]; · iexact Hs
    isplitl [Hk]; · iexact Hk
    iintro ⟨H0, H1, H2, H3, Hs, Hk⟩
    have hscore := score_fill (grid1.coords t) (inT W t) (blockAt W 0 t) (blockAt W 1 t) d0 filler d1 filler
    have hstart : startVal (grid1.coords t) s = startVal (grid1.coords t) (carried W t.val).1
        ∧ startIdx (F := F) (grid1.coords t) k = startIdx (F := F) (grid1.coords t) (carried W t.val).2 := by
      by_cases h0 : t.val = 0
      · unfold startVal startIdx
        rw [if_pos (isFirst_zero t h0), if_pos (isFirst_zero t h0), if_pos (isFirst_zero t h0), if_pos (isFirst_zero t h0)]; exact ⟨rfl, rfl⟩
      · rw [← hs h0]; exact ⟨rfl, rfl⟩
    have hv : stepVal (grid1.coords t) ((cfg1.win 0).fill (grid1.coords t) d0 (blockAt W 0 t)) ((cfg1.win 1).fill (grid1.coords t) d1 (blockAt W 1 t)) (inT W t) s
        = (carried W (t.val + 1)).1 := by
      rw [carried_succ, stepVal_congr _ _ _ hscore]; unfold stepVal; rw [hstart.1]; rfl
    have hi : stepIdx (grid1.coords t) ((cfg1.win 0).fill (grid1.coords t) d0 (blockAt W 0 t)) ((cfg1.win 1).fill (grid1.coords t) d1 (blockAt W 1 t)) (inT W t) s k
        = (carried W (t.val + 1)).2 := by
      rw [carried_succ, stepIdx_congr _ _ _ _ hscore]; unfold stepIdx; rw [hstart.1, hstart.2]; rfl
    rw [hv, hi]
    isplitl [Hs Hk HO]
    · isplitl [Hs Hk]
      · iexists _, _; isplitr; swap
        · isplitl [Hs]; · iexact Hs
          iexact Hk
        ipureintro; intro _; rfl
      iexact HO
    isplitl [Ho]; · iexact Ho
    isplitl [H0]
    · iexists d0
      rw [dat1_after0, cut_inX]; iexact H0
    isplitl [H1]
    · iexists d1
      rw [dat1_after1, cut_inG]; iexact H1
    isplitl [H2]
    · show _ ⊢ owns (c : Thread nD τ) (st1_2 t) fullShare ((dat1 W c).after 2 t)
      rw [dat1_after2]
    by_cases hl : isLast (grid1.coords t)
    · have hidle : cfg1.idle 3 (grid1.coords t) = false := by
        show (!(k1_cond2 (grid1.coords t) == 1#1)) = false
        rw [beq_iff_eq.mpr hl]; rfl
      rw [if_pos hl]; unfold Dat.leaves; rw [hidle]
      show _ ⊢ owns (c : Thread nD τ) (st1_3 t) fullShare ((dat1 W c).after 3 t)
      rw [dat1_after3]
    · have hidle : cfg1.idle 3 (grid1.coords t) = true := by
        show (!(k1_cond2 (grid1.coords t) == 1#1)) = true
        rw [beq_eq_false_iff_ne.mpr hl]; rfl
      have hflush : (cfg1.win 3).flush t = false := by
        rw [Bool.eq_false_iff]; intro hf
        have h3 := (flush1_3 t).mp hf
        have e : (grid1.coords t 1).val = t.val / 1 % 4 := Pipeline.Grid.coords_val t 1 (by decide) rfl
        apply hl; unfold isLast k1_cond2
        rw [e, Nat.div_one, h3]; decide
      rw [if_neg hl, Dat.leaves_idle _ 3 t hidle hflush]
      iexists d3; iexact H3
  exact triple_restated key rfl .rfl fun _ => .rfl

end Cert.KernelIdeal.Hand

end
-- ==== Proof.KernelIdeal.Run.lean ====
/-
  The whole program: the first launch, the slice of its table, the temperatures as a column, the second launch, the result as a vector.

  `mem0` … `mem5` are the buffers' contents between these items; `run` says that the program ends with `mem5` and with its arguments unchanged.
-/
module

public import proofs.«01_k».proof.Proof.KernelIdeal.Table
public import proofs.«01_k».proof.Proof.KernelIdeal.Sample
public import proofs.«01_k».proof.Proof.Gen.KernelIdeal.Regions
public import Idealize.ShloMosaic.Lib.Pipeline.RegionArraysS

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers between the items -/

/-- At launch. -/
def mem0 (c : Dev nD) : Valuation τ sig (Elt F) := fun b => m (c, b)
/-- After the first launch. -/
def mem1 (c : Dev nD) : Valuation τ sig (Elt F) := Pipeline.afterRegion (dat0 (mem0 m c) c) (mem0 m c)
/-- After the slice. -/
def mem2 (c : Dev nD) : Valuation τ sig (Elt F) := StableHlo.after hostOps1 (mem1 m c)
/-- After the temperatures are a column. -/
def mem3 (c : Dev nD) : Valuation τ sig (Elt F) := StableHlo.after hostOps1_1 (mem2 m c)
/-- After the second launch. -/
def mem4 (c : Dev nD) : Valuation τ sig (Elt F) := Pipeline.afterRegion (dat1 (mem3 m c) c) (mem3 m c)
/-- At the end. -/
def mem5 (c : Dev nD) : Valuation τ sig (Elt F) := StableHlo.after hostOps2 (mem4 m c)

/-- Each host item leaves the buffers it does not write. -/
theorem mem2_of (c : Dev nD) (r : Ref sig .tc) (h : r ∉ hostOps1_W) : mem2 m c (Proc.devRef .tc r) = mem1 m c (Proc.devRef .tc r) :=
  StableHlo.after_of_writes_sub hostOps1 _ hostOps1_writes h
theorem mem3_of (c : Dev nD) (r : Ref sig .tc) (h : r ∉ hostOps1_1_W) : mem3 m c (Proc.devRef .tc r) = mem2 m c (Proc.devRef .tc r) :=
  StableHlo.after_of_writes_sub hostOps1_1 _ hostOps1_1_writes h
theorem mem5_of (c : Dev nD) (r : Ref sig .tc) (h : r ∉ hostOps2_W) : mem5 m c (Proc.devRef .tc r) = mem4 m c (Proc.devRef .tc r) :=
  StableHlo.after_of_writes_sub hostOps2 _ hostOps2_writes h

/-- The first launch leaves every buffer but its table. -/
theorem mem1_of (c : Dev nD) (r : Ref sig .tc) (h : r ≠ main_v0) : mem1 m c (Proc.devRef .tc r) = mem0 m c (Proc.devRef .tc r) :=
  Pipeline.afterRegion_of_not_arr _ _ (fun w => by fin_cases w; exact h)

/-- The second launch reads its first argument and does not write it. -/
theorem mem4_arg0 (c : Dev nD) : mem4 m c (Proc.devRef .tc main_arg0) = mem3 m c (Proc.devRef .tc main_arg0) :=
  (Pipeline.afterRegion_arr (dat1 (mem3 m c) c) (mem3 m c) launch1.win.arr_inj 0).trans ((dat1 (mem3 m c) c).arrAt_in 0 rfl _)

/-- The logits at the end are those at launch; -/
theorem mem5_arg0 (c : Dev nD) : mem5 m c (Proc.devRef .tc main_arg0) = m (c, Proc.devRef .tc main_arg0) :=
  (mem5_of m c main_arg0 (by decide)).trans <| (mem4_arg0 m c).trans <| (mem3_of m c main_arg0 (by decide)).trans <|
    (mem2_of m c main_arg0 (by decide)).trans <| mem1_of m c main_arg0 (by decide)

/-- so are the temperatures. -/
theorem mem5_arg1 (c : Dev nD) : mem5 m c (Proc.devRef .tc main_arg1) = m (c, Proc.devRef .tc main_arg1) :=
  (mem5_of m c main_arg1 (by decide)).trans <| (Pipeline.afterRegion_of_not_arr _ _ (fun w => by fin_cases w <;> decide)).trans <|
    (mem3_of m c main_arg1 (by decide)).trans <| (mem2_of m c main_arg1 (by decide)).trans <| mem1_of m c main_arg1 (by decide)

/-! ## The items -/

/-- The two launches' accounts. -/
def accounts : (p : Fin 2) → (c : Dev nD) → Dat τ (Elt F) Unit ℕ (UR sig nD τ) ℕ (cfgs p) c
  | ⟨0, _⟩ => fun c => dat0 (mem0 m c) c
  | ⟨1, _⟩ => fun c => dat1 (mem3 m c) c

/-- One level, at which the staging buffers' semaphores wait. -/
abbrev levels : GSem nD τ sig → Finset Unit := fun g => if g.1.2 = .tc then Finset.univ else ∅
abbrev level : GSem nD τ sig → Unit → ℕ := fun _ _ => 0

/-- What rides beside the buffers: the core owes nothing, and the generator register. -/
def beside (c : Dev nD) : sProp 𝕄 :=
  iprop((∃ Wd, owes (c : Thread nD τ) (0 : CellTallies nD τ sig Unit) Wd) ∗ (∃ r, prngReg c r) ∗ emp)

theorem cut (p : Fin 2) : Pipeline.LevelCut (pcfgs (F := F)) adm () levels level p (fun _ => 0) (fun _ => 0) where
  hι _ _ _ := by unfold levels; rw [if_pos rfl]; exact Finset.mem_univ _
  hιb _ _ _ := le_refl _
  hD _ _ _ h := absurd h (lt_irrefl _)

set_option backward.isDefEq.respectTransparency.types false in
/-- The first launch. -/
def launchA : RegionSeg (pcfgs (F := F)) adm (accounts m) () defs₀ Variants.none levels level 0 :=
  RegionSeg.ofHeldIn (pcfgs (F := F)) adm (accounts m) () defs₀ Variants.none levels level 0 (fun _ => 0) (Pipeline.ucRefs τ sig)
    (fun c => iprop(∃ r, prngReg c r)) (fun c => iprop(∃ r, prngReg c r)) (launch0.toP) rfl
    (fun c => (body0 (mem0 m c) c).loose) (fun _ _ => rfl) (fun _ => rfl) (fun c => (accounts m 0 c).share_full fun _ => rfl)
    (fun _ => .rfl) (fun _ => .rfl) (fun _ => 0) (cut 0) (fun _ => iprop(emp)) (mem0 m) (fun _ _ => rfl)

/-- The launches' arrays are held between the items. -/
theorem arrays0 : Pipeline.arrRefs (pcfgs (F := F) 0).spec ⊆ Pipeline.ucRefs τ sig :=
  Pipeline.arrRefs_sub_ucRefs (pcfgs (F := F) 0).spec (fun w => by fin_cases w; rfl)
theorem arrays1 : Pipeline.arrRefs (pcfgs (F := F) 1).spec ⊆ Pipeline.ucRefs τ sig :=
  Pipeline.arrRefs_sub_ucRefs (pcfgs (F := F) 1).spec (fun w => by fin_cases w <;> rfl)

/-- The first launch takes the buffers from `mem0` … -/
theorem launchA_pre (c : Dev nD) :
    iprop(StableHlo.held (c : Thread nD τ) (Pipeline.ucRefs τ sig) (mem0 m c) ∗ beside c) ⊢ (launchA m).pre c := by
  unfold launchA beside
  refine BIBase.Entails.trans ?_ (RegionSeg.ofHeldIn_pre arrays0 c)
  exact .rfl

/-- … to `mem1`. -/
theorem launchA_post (c : Dev nD) :
    (launchA m).post c ⊢ iprop(StableHlo.held (c : Thread nD τ) (Pipeline.ucRefs τ sig) (mem1 m c) ∗ beside c) := by
  unfold launchA beside
  rw [show mem1 m c = Pipeline.afterRegion (accounts m 0 c) (mem0 m c) from rfl]
  exact RegionSeg.ofHeldIn_post arrays0 c

/-- The carried buffers are scoped buffers that no window stages. -/
theorem enter1 (W : Valuation τ sig (Elt F)) (c : Dev nD) :
    iprop(Pipeline.scopedRest spec1 c ∗ (∃ r, prngReg c r)) ⊢ between W c 0 := by
  rw [scopedRest1_eq]; unfold between others
  iintro ⟨⟨Ha, Hb, ⟨%s, Hs⟩, ⟨%k, Hk⟩⟩, Hp⟩
  isplitl [Hs Hk]
  · iexists s, k
    rw [owns_whole, owns_whole]
    isplitr; · ipureintro; exact fun h => absurd rfl h
    isplitl [Hs] <;> iassumption
  isplitl [Ha]; · iexact Ha
  isplitl [Hb] <;> iassumption

/-- They are given back after the last point. -/
theorem leave1 (W : Valuation τ sig (Elt F)) (c : Dev nD) (n : ℕ) :
    between W c n ⊢ iprop(Pipeline.scopedRest spec1 c ∗ (∃ r, prngReg c r)) := by
  rw [scopedRest1_eq]; unfold between others
  simp only [owns_whole]
  iintro ⟨⟨%s, %k, -, Hs, Hk⟩, Ha, Hb, Hp⟩
  isplitr [Hp]
  · isplitl [Ha]; · iexact Ha
    isplitl [Hb]; · iexact Hb
    isplitl [Hs]; · iexists s; iexact Hs
    iexists k; iexact Hk
  iexact Hp

set_option backward.isDefEq.respectTransparency.types false in
/-- The second launch. -/
def launchB : RegionSeg (pcfgs (F := F)) adm (accounts m) () defs₀ Variants.none levels level 1 :=
  RegionSeg.ofHeldIn (pcfgs (F := F)) adm (accounts m) () defs₀ Variants.none levels level 1 (fun _ => 0) (Pipeline.ucRefs τ sig)
    (fun c => iprop(∃ r, prngReg c r)) (fun c => iprop(∃ r, prngReg c r)) (launch1.toP) rfl
    (fun c => body1 (mem3 m c) c) (fun _ _ => rfl) (fun _ => rfl) (fun c => (accounts m 1 c).share_full fun _ => rfl)
    (fun c => enter1 (mem3 m c) c) (fun c => leave1 (mem3 m c) c _) (fun _ => 0) (cut 1) (fun _ => iprop(emp)) (mem3 m) (fun _ _ => rfl)

/-- The second launch takes the buffers from `mem3` … -/
theorem launchB_pre (c : Dev nD) :
    iprop(StableHlo.held (c : Thread nD τ) (Pipeline.ucRefs τ sig) (mem3 m c) ∗ beside c) ⊢ (launchB m).pre c := by
  unfold launchB beside
  refine BIBase.Entails.trans ?_ (RegionSeg.ofHeldIn_pre arrays1 c)
  exact .rfl

/-- … to `mem4`. -/
theorem launchB_post (c : Dev nD) :
    (launchB m).post c ⊢ iprop(StableHlo.held (c : Thread nD τ) (Pipeline.ucRefs τ sig) (mem4 m c) ∗ beside c) := by
  unfold launchB beside
  rw [show mem4 m c = Pipeline.afterRegion (accounts m 1 c) (mem3 m c) from rfl]
  exact RegionSeg.ofHeldIn_post arrays1 c

/-- A host item takes the buffers from one content to the next. -/
def host (ops : List (HloOp τ sig (Elt F)))
    (sub : ops.Forall fun op => op.bufs ⊆ StableHlo.tcRefs τ sig) (fresh : ops.Forall fun op => op.fresh = ∅)
    (V : Dev nD → Valuation τ sig (Elt F)) : HostSeg (Ix := Unit) (Name := ℕ) (U := UR sig nD τ) (Lvl := ℕ) (pcfgs (F := F)) defs₀ Variants.none levels level :=
  HostSeg.ofOps _ _ _ _ _ (Pipeline.ucRefs τ sig) ops (fun op h => Pipeline.sub_ucRefs op ((List.forall_iff_forall_mem.mp sub) op h))
    (fun op h => (List.forall_iff_forall_mem.mp fresh) op h) V beside

/-- The program's items in order. -/
abbrev items : List (Seg (pcfgs (F := F)) adm (accounts m) () defs₀ Variants.none levels level) :=
  [.region (launchA m), .host (host hostOps1 hostOps1_sub hostOps1_fresh (mem1 m)),
    .host (host hostOps1_1 hostOps1_1_sub hostOps1_1_fresh (mem2 m)), .region (launchB m),
    .host (host hostOps2 hostOps2_sub hostOps2_fresh (mem4 m))]

/-- Each item begins where the one before it ended. -/
theorem chain : Seg.Chains (fun c => iprop(StableHlo.held (c : Thread nD τ) (Pipeline.ucRefs τ sig) (mem0 m c) ∗ beside c)) (items m)
    fun c => iprop(StableHlo.held (c : Thread nD τ) (Pipeline.ucRefs τ sig) (mem5 m c) ∗ ∃ Wd, owes (c : Thread nD τ) (0 : CellTallies nD τ sig Unit) Wd) :=
  ⟨launchA_pre m, launchA_post m, fun _ => .rfl, launchB_pre m, launchB_post m, fun _ => sep_mono .rfl sep_elim_left⟩

/-- The resources at launch: the staging buffers' cells and their tokens. -/
def resources : UR sig nD τ := initOf (Pipeline.cells cfgs cellOf_inj) (Pipeline.launchToks cfgs cellOf_inj)

/-- A buffer of the whole program is one of those held between the items. -/
theorem held_of (r : Ref sig .tc) (h : (Proc.devRef (τ := τ) .tc r).isScoped = false) : Proc.devRef .tc r ∈ Pipeline.ucRefs τ sig :=
  Finset.mem_filter.mpr ⟨StableHlo.devRef_mem_tcRefs r, by rw [h]; exact Bool.false_ne_true⟩

set_option maxHeartbeats 1000000 in
set_option backward.isDefEq.respectTransparency.types false in
/-- From any memory with its counters at zero the program ends, faulting nowhere; then its result is what `mem5` says, its arguments are as they were and
    every counter is at zero. -/
theorem run (ρ : Dev nD → PrngReg) :
    θ_run defs (onTc (τ := τ) (main (F := F))) ⟨m, fun _ => 0, ρ⟩ (fun r => (∀ c : Dev nD,
      r.2.mem ((c.tc : Thread nD τ).loc main_v2) = mem5 m c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_regions_kit_sems (pcfgs (F := F)) adm (accounts m) () cellOf_inj emb₁ defs₀ Variants.none levels level m ρ main (items m)
    (fun c Q => by
      rewrite [main_chain c, Seg.run_eq_chain,
        show (items m).map Seg.prog = [Prog.lift (.customCall (Pipeline.entry 0) ()), StableHlo.seq hostOps1, StableHlo.seq hostOps1_1,
          Prog.lift (.customCall (Pipeline.entry 1) ()), StableHlo.seq hostOps2] from rfl]
      exact .rfl)
    (by simp only [items, Seg.pipes_host, Seg.pipes_region, Seg.pipes_nil]; decide) (O₀ := fun _ => 0) (hL := fun _ h => if_neg h)
    (G := fun _ => iprop(emp)) (u₀ := resources)
    (hu₀ := by
      unfold resources
      iintro Hu
      imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (mem0 m c) ∗ beside c))
    (Tₙ := fun c => StableHlo.held (c : Thread nD τ) (Pipeline.ucRefs τ sig) (mem5 m c))
    (hch := chain m)
    (hinit := by
      refine Pipeline.initEach levels level fun c => ?_
      rw [show unscopedBufs c (fun b => m ((c : Thread nD τ).loc b)) = StableHlo.held (c : Thread nD τ) (Pipeline.ucRefs τ sig) (mem0 m c) from Pipeline.unscopedBufs_held c (mem0 m c)]
      unfold beside
      iintro ⟨⟨Hh, -, HO, -, Hp, -⟩, -⟩
      imodintro
      isplitl [Hh]; · iexact Hh
      isplitl [HO]; · iexists ∅; iexact HO
      isplitl [Hp]; · iexists _; iexact Hp
      iempintro)
    (QY := fun c s => s.mem ((c.tc : Thread nD τ).loc main_v2) = mem5 m c (Proc.devRef .tc main_v2)
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      unfold StableHlo.held
      iintro ⟨Hh, HSI⟩
      ihave Hr := (pointsTo_read_all (Pipeline.ucRefs τ sig) (fun b => ((c : Thread nD τ).1, b)) (mem5 m c) s') $$ [Hh HSI]
      · isplitl [Hh] <;> iassumption
      icases Hr with ⟨%h, HSI⟩
      imodintro
      isplitr
      · ipureintro
        exact ⟨h _ (held_of main_v2 (by decide)), (h _ (held_of main_arg0 (by decide))).trans (mem5_arg0 m c),
          (h _ (held_of main_arg1 (by decide))).trans (mem5_arg1 m c)⟩
      iexact HSI)
    (hQ := fun _ h hz => ⟨h, funext fun g => hz g (.inr (regions_no_unscoped g.2))⟩)

end Cert.KernelIdeal.Hand

end
-- ==== Proof.Reference.Line.lean ====
/-
  The reference as one line of host operations, cut where its values are next stated.
-/
module

public import proofs.«01_k».proof.Proof.Gen.ReferenceIdeal
public import Idealize.ShloMosaic.Lib.StableHlo.RunHlo
public import Idealize.ShloMosaic.Lib.StableHlo.RunRead

@[expose] public section

set_option maxRecDepth 65536

noncomputable section

namespace Cert.ReferenceIdeal.Hand

open Cert.ReferenceIdeal Cert.ReferenceIdeal.Gen
open Idealize.ShloMosaic Idealize.ShloMosaic.TcCoe Idealize.SL.Sem
open Idealize.ShloMosaic.StableHlo

variable {F : FTy → Type} [FloatOps F]

/-- One line after another is the line of both. -/
theorem isSeq_append {Λ : Labels} {p : Prog (TpuEff nD τ sig (Elt F) Λ .tc) PUnit} {k : Prog (TpuEff nD τ sig (Elt F) Λ .tc) PUnit}
    {a b : List (HloOp τ sig (Elt F))} (hp : IsSeq p a) (hk : IsSeq k b) : IsSeq (p >>= fun _ => k) (a ++ b) := by
  unfold IsSeq at *
  rw [hp, hk, seq_append]

/-- One operation alone. -/
theorem isSeq_one {Λ : Labels} (op : HloOp τ sig (Elt F)) :
    IsSeq (nD := nD) (Λ := Λ) (hlo rfl op fun _ => .ret (⟨⟩ : PUnit)) [op] := by
  have h := IsSeq.cons (nD := nD) (Λ := Λ) (op := op) IsSeq.nil
  unfold IsSeq at *
  rw [← h, bind_pure]

/-- A program and the operations of which it is the line. -/
abbrev Line (p : Prog (TpuEff nD τ sig (Elt F) (Pipeline.Sig Λ₀ (Fin 0) fun p => (pcfgs (F := F) p).Adm) .tc) PUnit) : Type :=
  { ops : List (HloOp τ sig (Elt F)) // IsSeq p ops }

set_option maxHeartbeats 4000000 in
/-- Part 1 of 4 of the scrambling of the words. -/
def part0 : Line (F := F) (fn_threefry2x32.body_part0 main_call0_call0.v5 main_call0_call0.v7 main_call0_call0.v18 main_call0_call0.v17 main_call0_call0_call0) := by
  apply Subtype.mk
  · unfold fn_threefry2x32.body_part0
    repeat (first | exact IsSeq.nil | exact isSeq_one _ | apply IsSeq.cons)

set_option maxHeartbeats 4000000 in
/-- Part 2 of 4 of the scrambling of the words. -/
def part1 : Line (F := F) (fn_threefry2x32.body_part1 main_call0_call0.v5 main_call0_call0.v7 main_call0_call0.v18 main_call0_call0.v17 main_call0_call0_call0) := by
  apply Subtype.mk
  · unfold fn_threefry2x32.body_part1
    repeat (first | exact IsSeq.nil | exact isSeq_one _ | apply IsSeq.cons)

set_option maxHeartbeats 4000000 in
/-- Part 3 of 4 of the scrambling of the words. -/
def part2 : Line (F := F) (fn_threefry2x32.body_part2 main_call0_call0.v5 main_call0_call0.v7 main_call0_call0.v18 main_call0_call0.v17 main_call0_call0_call0) := by
  apply Subtype.mk
  · unfold fn_threefry2x32.body_part2
    repeat (first | exact IsSeq.nil | exact isSeq_one _ | apply IsSeq.cons)

set_option maxHeartbeats 4000000 in
/-- Part 4 of 4 of the scrambling of the words. -/
def part3 : Line (F := F) (fn_threefry2x32.body_part3 main_call0_call0.v5 main_call0_call0.v7 main_call0_call0.v18 main_call0_call0.v17 main_call0_call0_call0) := by
  apply Subtype.mk
  · unfold fn_threefry2x32.body_part3
    repeat (first | exact IsSeq.nil | exact isSeq_one _ | apply IsSeq.cons)

/-- The scrambling. -/
def scramble : Line (F := F) (fn_threefry2x32.body main_call0_call0.v5 main_call0_call0.v7 main_call0_call0.v18 main_call0_call0.v17 main_call0_call0_call0) :=
  ⟨_, isSeq_append part0.2 (isSeq_append part1.2 (isSeq_append part2.2 part3.2))⟩

set_option maxHeartbeats 4000000 in
/-- The uniform numbers. -/
def uniform : Line (F := F) (fn_uniform.body (.of main_v20) main_call0.cst main_call0.cst_0 main_call0_call0) := by
  apply Subtype.mk
  · unfold fn_uniform.body
    repeat (first | exact IsSeq.nil | apply IsSeq.cons | apply isSeq_append scramble.2)

/-- The noise. -/
def exponential : Line (F := F) (fn_exponential.body (.of main_v20) main_call0) := by
  apply Subtype.mk
  · unfold fn_exponential.body
    repeat (first | exact IsSeq.nil | apply IsSeq.cons | apply isSeq_append uniform.2)

/-- The index of the largest ratio. -/
def largest : Line (F := F) (fn_argmax.body (.of main_v24) main_call1) := by
  apply Subtype.mk
  · unfold fn_argmax.body
    repeat (first | exact IsSeq.nil | apply IsSeq.cons)

/-- The whole program. -/
def whole : { ops : List (HloOp τ sig (Elt F)) // ∀ d : Dev nD, IsSeq (main (F := F) d) ops } := by
  apply Subtype.mk
  intro d
  unfold main
  iterate 27 apply IsSeq.cons
  apply isSeq_append exponential.2
  iterate 4 apply IsSeq.cons
  apply isSeq_append largest.2
  exact IsSeq.nil

end Cert.ReferenceIdeal.Hand

end
-- ==== Proof.Reference.Run.lean ====
/-
  The reference's run: it ends holding what its line of operations leaves, its arguments as they were.
-/
module

public import proofs.«01_k».proof.Proof.Reference.Line
public import Idealize.ShloMosaic.Lib.Claim

@[expose] public section

set_option maxRecDepth 65536

noncomputable section

namespace Cert.ReferenceIdeal.Hand

open Cert.ReferenceIdeal Cert.ReferenceIdeal.Gen
open Idealize.ShloMosaic Idealize.ShloMosaic.TcCoe Idealize.SL.Sem
open Idealize.ShloMosaic.StableHlo

variable {F : FTy → Type} [FloatOps F]

/-- What a run asks of each operation: it touches the core's own buffers and draws no fresh name. -/
def Plain (ops : List (HloOp τ sig (Elt F))) : Prop :=
  (ops.Forall fun op => op.bufs ⊆ tcRefs τ sig) ∧ ∀ op ∈ ops, op.fresh = ∅

/-- Two plain lines in a row are plain. -/
theorem Plain.append {a b : List (HloOp τ sig (Elt F))} (ha : Plain a) (hb : Plain b) : Plain (a ++ b) :=
  ⟨List.forall_append.mpr ⟨ha.1, hb.1⟩, fun op h => (List.mem_append.mp h).elim (ha.2 op) (hb.2 op)⟩

/-- No operation is plain. -/
theorem Plain.nil : Plain ([] : List (HloOp τ sig (Elt F))) := ⟨trivial, fun _ h => nomatch h⟩

/-- A plain operation before a plain line. -/
theorem Plain.cons {op : HloOp τ sig (Elt F)} {b : List (HloOp τ sig (Elt F))} (h : op.bufs ⊆ tcRefs τ sig) (hf : op.fresh = ∅) (hb : Plain b) :
    Plain (op :: b) :=
  ⟨(List.forall_cons _ _ _).mpr ⟨h, hb.1⟩, fun o ho => by
    rcases List.mem_cons.mp ho with rfl | ho
    · exact hf
    · exact hb.2 o ho⟩

/-- The first part of the scrambling is plain. -/
theorem part0_plain : Plain (part0 (F := F)).1 := by
  unfold part0
  repeat (first | exact Plain.nil | refine Plain.cons (by simp) rfl ?_)

/-- The second part of the scrambling is plain. -/
theorem part1_plain : Plain (part1 (F := F)).1 := by
  unfold part1
  repeat (first | exact Plain.nil | refine Plain.cons (by simp) rfl ?_)

/-- The third part of the scrambling is plain. -/
theorem part2_plain : Plain (part2 (F := F)).1 := by
  unfold part2
  repeat (first | exact Plain.nil | refine Plain.cons (by simp) rfl ?_)

/-- The fourth part of the scrambling is plain. -/
theorem part3_plain : Plain (part3 (F := F)).1 := by
  unfold part3
  repeat (first | exact Plain.nil | refine Plain.cons (by simp) rfl ?_)

/-- The scrambling is plain. -/
theorem scramble_plain : Plain (scramble (F := F)).1 :=
  part0_plain.append (part1_plain.append (part2_plain.append part3_plain))

/-- The uniform numbers' line is plain. -/
theorem uniform_plain : Plain (uniform (F := F)).1 := by
  unfold uniform
  repeat (first | exact Plain.nil | refine Plain.cons (by simp) rfl ?_ | refine scramble_plain.append ?_)

/-- The noise's line is plain. -/
theorem exponential_plain : Plain (exponential (F := F)).1 := by
  unfold exponential
  repeat (first | exact Plain.nil | refine Plain.cons (by simp) rfl ?_ | refine uniform_plain.append ?_)

/-- The line of the largest ratio is plain. -/
theorem largest_plain : Plain (largest (F := F)).1 := by
  unfold largest
  repeat (first | exact Plain.nil | refine Plain.cons (by simp) rfl ?_)

/-- The whole line is plain. -/
theorem whole_plain : Plain (whole (F := F)).1 := by
  unfold whole
  repeat (first | exact Plain.nil | refine Plain.cons (by simp) rfl ?_ | refine exponential_plain.append ?_ | refine largest_plain.append ?_)

/-- The reference terminates, every array of its core holding what the line leaves there, no semaphore raised. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = after (whole (F := F)).1 (launchContents m d) (Proc.devRef .tc b) :=
  run_hlo _ _ whole.2 (by decide) (by decide) whole_plain.1 whole_plain.2 m ρ

/-- Nothing writes the first argument. -/
theorem whole_arg0 (V : Valuation τ sig (Elt F)) : after (whole (F := F)).1 V (Proc.devRef .tc main_arg0) = V (Proc.devRef .tc main_arg0) := by
  unfold whole
  after_reads_simp

/-- Nothing writes the second argument. -/
theorem whole_arg1 (V : Valuation τ sig (Elt F)) : after (whole (F := F)).1 V (Proc.devRef .tc main_arg1) = V (Proc.devRef .tc main_arg1) := by
  unfold whole
  after_reads_simp

/-- The reference has no semaphore. -/
theorem no_cell : ∀ x : SemLoc sig, False
  | .reg s => Fin.elim0 s
  | .dma s => Fin.elim0 s

/-- What the reference leaves: its result as the line computes it, its arguments as they were, no semaphore raised. -/
theorem frame (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_v25) = after (whole (F := F)).1 (launchContents m c) (Proc.devRef .tc main_v25)
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  θ_run_mono (run m ρ) fun r h =>
    ⟨fun c => ⟨h c main_v25, (h c main_arg0).trans (whole_arg0 _), (h c main_arg1).trans (whole_arg1 _)⟩, by
      funext x
      exact (no_cell x.2).elim⟩

end Cert.ReferenceIdeal.Hand

end
-- ==== Proof.Pre.lean ====
/-
  The precondition on the extended reals, element by element.
-/
module

public import proofs.«01_k».proof.Pre_logits_below_infinity_and_temperatures_positive
public import Idealize.ShloMosaic.Lib.ReduceAll
public import Idealize.ShloMosaic.PureOps.Ideal.Laws

@[expose] public section

set_option maxRecDepth 16384

noncomputable section

namespace Cert.Pre_logits_below_infinity_and_temperatures_positive.Hand

open Cert.Pre_logits_below_infinity_and_temperatures_positive
open Idealize.ShloMosaic

/-- The shapes that the precondition names fit together. -/
theorem facts : Facts where
  bcast_S_S64x1000000 := by decide
  reducesTo_S64x1000000_S_d0_1 := by decide
  h_S_ := by decide
  bcast_S_S64 := by decide
  reducesTo_S64_S_d0 := by decide

/-- The pattern of infinity is the greatest number. -/
theorem greatest : Ideal.ofBits .f32 0x7F800000#32 = ⊤ := by simp [Ideal.ofBits, Ideal.ieee]

/-- A comparison "less than" that holds at an element. -/
theorem less_of {s : Shape} (a b : FVec Ideal s .f32) (i : s.Idx) (h : cmpf .olt a b i = 1#1) : (a i : EReal) < b i := by
  have e : cmpf .olt a b i = FloatOps.cmpf .olt (a i) (b i) := rfl
  rw [e] at h
  simp only [Ideal.cmpf_def, Ideal.cmp] at h
  by_contra hn
  simp [hn] at h

/-- A comparison "greater than" that holds at an element. -/
theorem greater_of {s : Shape} (a b : FVec Ideal s .f32) (i : s.Idx) (h : cmpf .ogt a b i = 1#1) : (b i : EReal) < a i := by
  have e : cmpf .ogt a b i = FloatOps.cmpf .ogt (a i) (b i) := rfl
  rw [e] at h
  simp only [Ideal.cmpf_def, Ideal.cmp] at h
  by_contra hn
  simp [hn] at h

/-- The precondition says: every logit is below infinity, every temperature is above zero and below infinity. -/
theorem meaning [Facts] (x : FVec Ideal S64x1000000 .f32) (t : FVec Ideal S64 .f32) (h : fn x t = fun _ => 1#1) :
    (∀ i, (x i : EReal) < ⊤) ∧ (∀ j, (0 : EReal) < t j) ∧ ∀ j, (t j : EReal) < ⊤ := by
  have h0 := congrFun h (Shape.Idx.first Facts.h_S_)
  unfold fn at h0
  obtain ⟨h1, h2⟩ := IntOp.andi_eq_one.1 h0
  obtain ⟨h3, h4⟩ := IntOp.andi_eq_one.1 h1
  haveI : Subsingleton S_.Idx := ⟨fun a b => funext fun k => k.elim0⟩
  refine ⟨fun i => ?_, fun j => ?_, fun j => ?_⟩
  · exact (less_of _ _ i (Host.reduce_andi_all _ _ _ _ _ h3 i)).trans_eq greatest
  · exact (show (0 : EReal) = _ from Ideal.ofBits_zero_f32.symm).trans_lt (greater_of _ _ j (Host.reduce_andi_all _ _ _ _ _ h4 j))
  · exact (less_of _ _ j (Host.reduce_andi_all _ _ _ _ _ h2 j)).trans_eq greatest

end Cert.Pre_logits_below_infinity_and_temperatures_positive.Hand

end
-- ==== Proof.Words.lean ====
/-
  The scrambling of words by both programs: rounds that mix a pair of words, and additions of key words between them.
-/
module

public import Idealize.ShloMosaic.PureOps.Vector

@[expose] public section

namespace Cert.Words

open Idealize.ShloMosaic

/-- A pair of 32-bit words, the generator's running state. -/
abbrev Pair : Type := BitVec 32 × BitVec 32

/-- One round as the reference writes it: add, rotate by `k` (`l` the complement), exclusive or. -/
def mix (k l : BitVec 32) (p : Pair) : Pair :=
  (IntOp.addi p.1 p.2, IntOp.xori (IntOp.addi p.1 p.2) (IntOp.ori (IntOp.shli .host p.2 k) (IntOp.shrui .host p.2 l)))

/-- One round as the kernel writes it. -/
def mixLane (k l : BitVec 32) (p : Pair) : Pair :=
  (IntOp.addi p.1 p.2, IntOp.xori (IntOp.ori (IntOp.shli .vector p.2 k) (IntOp.shrui .vector p.2 l)) (IntOp.addi p.1 p.2))

/-- The two agree at amounts below the width. -/
theorem mixLane_eq (k l : BitVec 32) (hk : k.toNat < 32) (hl : l.toNat < 32) (p : Pair) : mixLane k l p = mix k l p := by
  simp only [mixLane, mix, IntOp.shli, IntOp.shrui, hk, hl, if_true, IntOp.xori]
  rw [BitVec.xor_comm]

/-- The addition of two key words and a counter. -/
def inject (a b c : BitVec 32) (p : Pair) : Pair := (IntOp.addi p.1 a, IntOp.addi (IntOp.addi p.2 b) c)

/-- Four rounds with the first set of amounts. -/
def roundsA (p : Pair) : Pair := mix 6#32 26#32 (mix 26#32 6#32 (mix 15#32 17#32 (mix 13#32 19#32 p)))

/-- Four rounds with the second set of amounts. -/
def roundsB (p : Pair) : Pair := mix 24#32 8#32 (mix 16#32 16#32 (mix 29#32 3#32 (mix 17#32 15#32 p)))

/-- All twenty rounds with key words `a`, `b`, `c`. -/
def scramble (a b c : BitVec 32) (p : Pair) : Pair :=
  inject c a 5#32 (roundsA (inject b c 4#32 (roundsB (inject a b 3#32 (roundsA (inject c a 2#32 (roundsB (inject b c 1#32 (roundsA p)))))))))

/-- The third key word: the two others and a constant, combined by exclusive or. -/
def third : BitVec 32 := IntOp.xori (IntOp.xori 0#32 42#32) 466688986#32

/-- The word of place `n` of the table, counted row by row: the two halves of the scrambled counter, combined by exclusive or. -/
def word (n : ℕ) : BitVec 32 :=
  IntOp.xori (scramble 0#32 42#32 third (0#32, BitVec.ofNat 32 n + 42#32)).1 (scramble 0#32 42#32 third (0#32, BitVec.ofNat 32 n + 42#32)).2

end Cert.Words
-- ==== Proof.Race.lean ====
/-
  The two ways of choosing, put in the same order.

  The reference divides the softmax of a row by the noise and takes the greatest; the kernel adds to each logit the temperature times minus
  the logarithm of the noise.  `order` says that the two compare any two columns alike.
-/
module

public import Idealize.ShloMosaic.Lib.IdealHost

@[expose] public section

noncomputable section

namespace Cert.Race

open Idealize.ShloMosaic

/-- The pattern of a number of at least one and below two whose fraction is the upper bits of `w`. -/
def pattern (w : BitVec 32) : BitVec 32 := (w >>> 9) ||| 1065353216#32

/-- Its exponent field. -/
theorem pattern_exponent (w : BitVec 32) : (pattern w).extractLsb' 23 8 = 127#8 := by
  unfold pattern
  ext i hi
  simp only [BitVec.getElem_extractLsb', BitVec.getLsbD_or, BitVec.getLsbD_ushiftRight]
  rw [BitVec.getLsbD_of_ge w _ (by omega), Bool.false_or]
  have : i = 0 ∨ i = 1 ∨ i = 2 ∨ i = 3 ∨ i = 4 ∨ i = 5 ∨ i = 6 ∨ i = 7 := by omega
  rcases this with rfl | rfl | rfl | rfl | rfl | rfl | rfl | rfl <;> decide +revert

/-- Its sign. -/
theorem pattern_sign (w : BitVec 32) : (pattern w).extractLsb' 31 1 = 0#1 := by
  unfold pattern
  ext i hi
  simp only [BitVec.getElem_extractLsb', BitVec.getLsbD_or, BitVec.getLsbD_ushiftRight]
  rw [BitVec.getLsbD_of_ge w _ (by omega), Bool.false_or]
  have : i = 0 := by omega
  subst this; decide +revert

/-- The uniform number of a word. -/
def unitOf (w : BitVec 32) : EReal := Ideal.ofBits .f32 (pattern w) - Ideal.ofBits .f32 0x3F800000#32

/-- It is a real number, at least zero and below one. -/
theorem unitOf_real (w : BitVec 32) : ∃ u : ℝ, 0 ≤ u ∧ u < 1 ∧ unitOf w = (u : EReal) := by
  have hfr : ((pattern w).extractLsb' 0 23).toNat < 2 ^ 23 := BitVec.isLt _
  have e : Ideal.ofBits .f32 (pattern w) = (((2 ^ 23 + ((pattern w).extractLsb' 0 23).toNat : ℕ) : ℝ) * (2 : ℝ) ^ (-23 : ℤ) : ℝ) := by
    unfold Ideal.ofBits Ideal.ieee
    simp only [pattern_exponent, show (8 + 23 : ℕ) = 31 from rfl, pattern_sign]
    norm_num
  refine ⟨((pattern w).extractLsb' 0 23).toNat * (2 : ℝ) ^ (-23 : ℤ), by positivity, ?_, ?_⟩
  · have : (((pattern w).extractLsb' 0 23).toNat : ℝ) < 2 ^ 23 := by exact_mod_cast hfr
    rw [zpow_neg, ← div_eq_mul_inv, div_lt_one (by positivity)]
    exact_mod_cast hfr
  · unfold unitOf
    rw [e, Ideal.ofBits_one_f32, ← EReal.coe_one, ← EReal.coe_sub]
    congr 1
    push_cast
    rw [add_mul]
    norm_num

/-- The noise of a word, held above a bound. -/
def held (w : BitVec 32) : EReal := max (-(Ideal.log1p (-(unitOf w)))) (Ideal.ofBits .f32 0x2EDBE6FF#32)

/-- It is a positive real number. -/
theorem held_real (w : BitVec 32) : ∃ n : ℝ, 0 < n ∧ held w = (n : EReal) := by
  obtain ⟨u, h0, h1, e⟩ := unitOf_real w
  obtain ⟨b, hb, eb⟩ : ∃ b : ℝ, 0 < b ∧ Ideal.ofBits .f32 0x2EDBE6FF#32 = (b : EReal) := by
    refine ⟨14411519 * (2 : ℝ) ^ (-57 : ℤ), by positivity, ?_⟩
    simp [Ideal.ofBits, Ideal.ieee, -EReal.coe_mul]
  refine ⟨max (-(Real.log (1 - u))) b, lt_max_of_lt_right hb, ?_⟩
  unfold held Ideal.log1p
  rw [e, eb, ← EReal.coe_one, ← EReal.coe_neg, ← EReal.coe_add, ← sub_eq_add_neg, Ideal.log_coe, if_neg (by linarith), ← EReal.coe_neg]
  exact (EReal.coe_strictMono.monotone.map_max).symm

/-- A quotient by a positive real number. -/
theorem div_pos_real (x : EReal) {y : ℝ} (hy : 0 < y) : Ideal.div x y = x * ((y⁻¹ : ℝ) : EReal) := by
  unfold Ideal.div
  rw [if_neg (by exact_mod_cast hy.ne'), EReal.coe_inv]

/-- A logit below plus infinity over a positive temperature is minus infinity or a real number, as the logit is. -/
theorem scaled_cases {x : EReal} (hx : x < ⊤) {t : ℝ} (ht : 0 < t) :
    (x = ⊥ ∧ Ideal.div x t = ⊥) ∨ ∃ r : ℝ, x = r ∧ Ideal.div x t = ((r / t : ℝ) : EReal) := by
  rw [div_pos_real x ht]
  induction x using EReal.rec with
  | bot => exact .inl ⟨rfl, EReal.bot_mul_coe_of_pos (inv_pos.mpr ht)⟩
  | coe r => exact .inr ⟨r, rfl, by rw [← EReal.coe_mul, div_eq_mul_inv]⟩
  | top => exact absurd hx (lt_irrefl _)

/-- The ratio the reference compares and the sum the kernel compares put any two columns in the same order. -/
theorem order {ι : Type} [Fintype ι] (X : ι → EReal) (t : ℝ) (N : ι → ℝ) (M : EReal) (S : EReal) (hX : ∀ k, X k < ⊤) (ht : 0 < t)
    (hN : ∀ k, 0 < N k) (hM : ∀ k, Ideal.div (X k) t ≤ M) (hM' : M = ⊥ ∨ ∃ k, M = Ideal.div (X k) t)
    (hS : S = ∑ k, Ideal.exp (Ideal.div (X k) t - M)) (i j : ι) :
    Ideal.div (Ideal.div (Ideal.exp (Ideal.div (X i) t - M)) S) (N i) < Ideal.div (Ideal.div (Ideal.exp (Ideal.div (X j) t - M)) S) (N j)
      ↔ X i + (t : EReal) * ((-(Real.log (N i)) : ℝ) : EReal) < X j + (t : EReal) * ((-(Real.log (N j)) : ℝ) : EReal) := by
  by_cases hb : M = ⊥
  · have hx : ∀ k, X k = ⊥ := fun k => by
      rcases scaled_cases (hX k) ht with ⟨h, -⟩ | ⟨r, -, h⟩
      · exact h
      · have := hM k; rw [h, hb] at this; exact absurd this (by simp)
    have hz : ∀ k, Ideal.exp (Ideal.div (X k) t - M) = 0 := fun k => by
      rw [hb, hx k, show Ideal.div ⊥ (t : EReal) = ⊥ from by
        rw [div_pos_real ⊥ ht]; exact EReal.bot_mul_coe_of_pos (inv_pos.mpr ht)]
      rfl
    have hs : S = 0 := by rw [hS]; exact Finset.sum_eq_zero fun k _ => hz k
    have hd : ∀ k, Ideal.div (Ideal.div (Ideal.exp (Ideal.div (X k) t - M)) S) (N k) = ⊥ := fun k => by
      rw [hz k, hs, show Ideal.div (0 : EReal) 0 = ⊥ from by unfold Ideal.div; rw [if_pos rfl, if_neg (lt_irrefl _)], div_pos_real ⊥ (hN k)]
      exact EReal.bot_mul_coe_of_pos (inv_pos.mpr (hN k))
    rw [hd i, hd j, hx i, hx j, EReal.bot_add, EReal.bot_add]
  · obtain ⟨k₀, hk₀⟩ := hM'.resolve_left hb
    obtain ⟨r₀, -, hr₀⟩ : ∃ r : ℝ, X k₀ = r ∧ Ideal.div (X k₀) t = ((r / t : ℝ) : EReal) := by
      rcases scaled_cases (hX k₀) ht with ⟨-, h⟩ | h
      · exact absurd (hk₀.trans h) hb
      · exact h
    have hMr : M = ((r₀ / t : ℝ) : EReal) := hk₀.trans hr₀
    generalize r₀ / t = q at hMr
    -- the exponentials, as real numbers
    have hE : ∀ k, ∃ e : ℝ, 0 ≤ e ∧ Ideal.exp (Ideal.div (X k) t - M) = (e : EReal)
        ∧ ((X k = ⊥ ∧ e = 0) ∨ ∃ r : ℝ, X k = r ∧ e = Real.exp (r / t - q)) := fun k => by
      rcases scaled_cases (hX k) ht with ⟨h, h'⟩ | ⟨r, h, h'⟩
      · exact ⟨0, le_rfl, by rw [h', hMr]; rfl, .inl ⟨h, rfl⟩⟩
      · exact ⟨Real.exp (r / t - q), (Real.exp_pos _).le, by rw [h', hMr, ← EReal.coe_sub]; rfl, .inr ⟨r, h, rfl⟩⟩
    choose E hE0 hEe hEc using hE
    have hSr : S = ((∑ k, E k : ℝ) : EReal) := by
      rw [hS, Finset.sum_congr rfl fun k _ => hEe k]
      exact (map_sum (⟨⟨((↑) : ℝ → EReal), EReal.coe_zero⟩, EReal.coe_add⟩ : ℝ →+ EReal) E Finset.univ).symm
    have hSp : 0 < ∑ k, E k := by
      refine Finset.sum_pos' (fun k _ => hE0 k) ⟨k₀, Finset.mem_univ _, ?_⟩
      rcases hEc k₀ with ⟨h, -⟩ | ⟨r, -, h⟩
      · rw [h, div_pos_real ⊥ ht, EReal.bot_mul_coe_of_pos (inv_pos.mpr ht)] at hr₀
        exact absurd hr₀ (by simp)
      · rw [h]; exact Real.exp_pos _
    generalize (∑ k, E k) = s at hSr hSp
    have hd : ∀ k, Ideal.div (Ideal.div (Ideal.exp (Ideal.div (X k) t - M)) S) (N k) = ((E k * s⁻¹ * (N k)⁻¹ : ℝ) : EReal) := fun k => by
      rw [hEe, hSr, div_pos_real _ hSp, ← EReal.coe_mul, div_pos_real _ (hN k), ← EReal.coe_mul]
    rw [hd i, hd j, EReal.coe_lt_coe_iff]
    have hn : ∀ k, 0 < (N k)⁻¹ := fun k => inv_pos.mpr (hN k)
    have hs : 0 < s⁻¹ := inv_pos.mpr hSp
    rcases hEc i with ⟨hi, ei⟩ | ⟨a, hi, ei⟩ <;> rcases hEc j with ⟨hj, ej⟩ | ⟨b, hj, ej⟩
    · rw [hi, hj, ei, ej, EReal.bot_add, EReal.bot_add]; simp
    · rw [hi, hj, ei, ej, EReal.bot_add, ← EReal.coe_mul, ← EReal.coe_add]
      refine iff_of_true ?_ (EReal.bot_lt_coe _)
      have := Real.exp_pos (b / t - q)
      have := hn j
      simp only [zero_mul]
      positivity
    · rw [hi, hj, ei, ej, EReal.bot_add]
      refine iff_of_false ?_ not_lt_bot
      have := Real.exp_pos (a / t - q)
      have := hn i
      simp only [zero_mul, not_lt]
      positivity
    · rw [hi, hj, ei, ej, ← EReal.coe_mul, ← EReal.coe_mul, ← EReal.coe_add, ← EReal.coe_add, EReal.coe_lt_coe_iff]
      have key : ∀ (c : ℝ) (k : ι), Real.exp (c / t - q) * s⁻¹ * (N k)⁻¹ = Real.exp ((c + t * -(Real.log (N k))) / t - q) * s⁻¹ := fun c k => by
        rw [show (c + t * -(Real.log (N k))) / t - q = (c / t - q) + -(Real.log (N k)) by field_simp; ring, Real.exp_add, Real.exp_neg,
          Real.exp_log (hN k)]
        ring
      rw [key, key, mul_lt_mul_iff_left₀ hs, Real.exp_lt_exp, sub_lt_sub_iff_right, div_lt_div_iff_of_pos_right ht]

end Cert.Race

end
-- ==== Proof.KernelIdeal.TableValue.lean ====
/-
  What the first launch's body computes, element by element on the extended reals: minus the logarithm of the noise of the element's word.
-/
module

public import proofs.«01_k».proof.Proof.KernelIdeal.Table
public import proofs.«01_k».proof.Proof.Words
public import proofs.«01_k».proof.Proof.Race
public import Idealize.ShloMosaic.Lib.Pipeline.ValueKit.Basic

@[expose] public section

set_option maxRecDepth 16384

noncomputable section

namespace Cert.KernelIdeal.Hand

open Cert.KernelIdeal Cert.KernelIdeal.Gen Cert.Words
open Idealize.ShloMosaic Idealize.ShloMosaic.TcCoe

/-- The first four rounds. -/
theorem rounds_first (i : grid0.Coords) (e : S64x16384.Idx) :
    ((k0_pay9 i e, k0_pay10 i e) : Pair) = roundsA (IntOp.addi 0#32 0#32, k0_pay2 i e) := by
  have s1 : ((k0_pay3 i e, k0_pay4 i e) : Pair) = mixLane 13#32 19#32 (IntOp.addi 0#32 0#32, k0_pay2 i e) := rfl
  have s2 : ((k0_pay5 i e, k0_pay6 i e) : Pair) = mixLane 15#32 17#32 (k0_pay3 i e, k0_pay4 i e) := rfl
  have s3 : ((k0_pay7 i e, k0_pay8 i e) : Pair) = mixLane 26#32 6#32 (k0_pay5 i e, k0_pay6 i e) := rfl
  have s4 : ((k0_pay9 i e, k0_pay10 i e) : Pair) = mixLane 6#32 26#32 (k0_pay7 i e, k0_pay8 i e) := rfl
  rw [s4, s3, s2, s1, roundsA]
  simp only [mixLane_eq _ _ (show (13#32 : BitVec 32).toNat < 32 by decide) (show (19#32 : BitVec 32).toNat < 32 by decide),
    mixLane_eq _ _ (show (15#32 : BitVec 32).toNat < 32 by decide) (show (17#32 : BitVec 32).toNat < 32 by decide),
    mixLane_eq _ _ (show (26#32 : BitVec 32).toNat < 32 by decide) (show (6#32 : BitVec 32).toNat < 32 by decide),
    mixLane_eq _ _ (show (6#32 : BitVec 32).toNat < 32 by decide) (show (26#32 : BitVec 32).toNat < 32 by decide)]

/-- The second four rounds, and the first of the third. -/
theorem rounds_second (K : BitVec 32) (u v : IVec S64x16384 32) (e : S64x16384.Idx) :
    ((k0_pay20 K u v e, k0_pay22 (k0_pay20 K u v) (k0_pay21 K u v) e) : Pair)
      = mix 13#32 19#32 (inject K 0#32 2#32 (roundsB (inject 42#32 K 1#32 (u e, v e)))) := by
  have s1 : ((k0_pay12 K u v e, k0_pay13 K u v e) : Pair) = mixLane 17#32 15#32 (inject 42#32 K 1#32 (u e, v e)) := rfl
  have s2 : ((k0_pay14 K u v e, k0_pay15 K u v e) : Pair) = mixLane 29#32 3#32 (k0_pay12 K u v e, k0_pay13 K u v e) := rfl
  have s3 : ((k0_pay16 K u v e, k0_pay17 K u v e) : Pair) = mixLane 16#32 16#32 (k0_pay14 K u v e, k0_pay15 K u v e) := rfl
  have s4 : ((IntOp.addi (k0_pay18 K u v e) K, k0_pay19 K u v e) : Pair)
    = inject K 0#32 2#32 (mixLane 24#32 8#32 (k0_pay16 K u v e, k0_pay17 K u v e)) := rfl
  have s5 : ((k0_pay20 K u v e, k0_pay22 (k0_pay20 K u v) (k0_pay21 K u v) e) : Pair)
    = mixLane 13#32 19#32 (IntOp.addi (k0_pay18 K u v e) K, k0_pay19 K u v e) := rfl
  rw [s5, s4, s3, s2, s1, roundsB]
  simp only [mixLane_eq _ _ (show (17#32 : BitVec 32).toNat < 32 by decide) (show (15#32 : BitVec 32).toNat < 32 by decide),
    mixLane_eq _ _ (show (29#32 : BitVec 32).toNat < 32 by decide) (show (3#32 : BitVec 32).toNat < 32 by decide),
    mixLane_eq _ _ (show (16#32 : BitVec 32).toNat < 32 by decide) (show (16#32 : BitVec 32).toNat < 32 by decide),
    mixLane_eq _ _ (show (24#32 : BitVec 32).toNat < 32 by decide) (show (8#32 : BitVec 32).toNat < 32 by decide),
    mixLane_eq _ _ (show (13#32 : BitVec 32).toNat < 32 by decide) (show (19#32 : BitVec 32).toNat < 32 by decide)]

/-- The rest of the third four rounds, and three of the fourth. -/
theorem rounds_third (a b : IVec S64x16384 32) (e : S64x16384.Idx) :
    ((k0_pay33 a b e, k0_pay35 (k0_pay32 a b) (k0_pay33 a b) (k0_pay34 a b) 16#32 e) : Pair)
      = mix 16#32 16#32 (mix 29#32 3#32 (mix 17#32 15#32 (inject 0#32 42#32 3#32 (mix 6#32 26#32 (mix 26#32 6#32 (mix 15#32 17#32 (a e, k0_pay22 a b e))))))) := by
  have s1 : ((k0_pay23 a b e, k0_pay24 a b e) : Pair) = mixLane 15#32 17#32 (a e, k0_pay22 a b e) := rfl
  have s2 : ((k0_pay25 a b e, k0_pay26 a b e) : Pair) = mixLane 26#32 6#32 (k0_pay23 a b e, k0_pay24 a b e) := rfl
  have s3 : ((IntOp.addi (k0_pay27 a b e) 0#32, k0_pay28 a b e) : Pair)
    = inject 0#32 42#32 3#32 (mixLane 6#32 26#32 (k0_pay25 a b e, k0_pay26 a b e)) := rfl
  have s4 : ((k0_pay29 a b e, k0_pay30 a b e) : Pair) = mixLane 17#32 15#32 (IntOp.addi (k0_pay27 a b e) 0#32, k0_pay28 a b e) := rfl
  have s5 : ((k0_pay31 a b e, k0_pay32 a b e) : Pair) = mixLane 29#32 3#32 (k0_pay29 a b e, k0_pay30 a b e) := rfl
  have s6 : ((k0_pay33 a b e, k0_pay35 (k0_pay32 a b) (k0_pay33 a b) (k0_pay34 a b) 16#32 e) : Pair)
    = mixLane 16#32 16#32 (k0_pay31 a b e, k0_pay32 a b e) := rfl
  rw [s6, s5, s4, s3, s2, s1]
  simp only [mixLane_eq _ _ (show (17#32 : BitVec 32).toNat < 32 by decide) (show (15#32 : BitVec 32).toNat < 32 by decide),
    mixLane_eq _ _ (show (29#32 : BitVec 32).toNat < 32 by decide) (show (3#32 : BitVec 32).toNat < 32 by decide),
    mixLane_eq _ _ (show (16#32 : BitVec 32).toNat < 32 by decide) (show (16#32 : BitVec 32).toNat < 32 by decide),
    mixLane_eq _ _ (show (15#32 : BitVec 32).toNat < 32 by decide) (show (17#32 : BitVec 32).toNat < 32 by decide),
    mixLane_eq _ _ (show (26#32 : BitVec 32).toNat < 32 by decide) (show (6#32 : BitVec 32).toNat < 32 by decide),
    mixLane_eq _ _ (show (6#32 : BitVec 32).toNat < 32 by decide) (show (26#32 : BitVec 32).toNat < 32 by decide)]

/-- The last of the fourth four rounds, the fifth, and the first of the last two key words. -/
theorem rounds_last (K : BitVec 32) (a b c : IVec S64x16384 32) (e : S64x16384.Idx) :
    ((k0_pay46 K a b c 16#32 e, IntOp.addi (IntOp.addi (k0_pay45 K a b c 16#32 e) 0#32) 5#32) : Pair)
      = inject K 0#32 5#32 (roundsA (inject 42#32 K 4#32 (mix 24#32 8#32 (b e, k0_pay35 a b c 16#32 e)))) := by
  have s1 : ((IntOp.addi (k0_pay36 a b c 16#32 e) 42#32, k0_pay37 K a b c 16#32 e) : Pair)
    = inject 42#32 K 4#32 (mixLane 24#32 8#32 (b e, k0_pay35 a b c 16#32 e)) := rfl
  have s2 : ((k0_pay38 K a b c 16#32 e, k0_pay39 K a b c 16#32 e) : Pair)
    = mixLane 13#32 19#32 (IntOp.addi (k0_pay36 a b c 16#32 e) 42#32, k0_pay37 K a b c 16#32 e) := rfl
  have s3 : ((k0_pay40 K a b c 16#32 e, k0_pay41 K a b c 16#32 e) : Pair) = mixLane 15#32 17#32 (k0_pay38 K a b c 16#32 e, k0_pay39 K a b c 16#32 e) := rfl
  have s4 : ((k0_pay42 K a b c 16#32 e, k0_pay43 K a b c 16#32 e) : Pair) = mixLane 26#32 6#32 (k0_pay40 K a b c 16#32 e, k0_pay41 K a b c 16#32 e) := rfl
  have s5 : ((k0_pay46 K a b c 16#32 e, IntOp.addi (IntOp.addi (k0_pay45 K a b c 16#32 e) 0#32) 5#32) : Pair)
    = inject K 0#32 5#32 (mixLane 6#32 26#32 (k0_pay42 K a b c 16#32 e, k0_pay43 K a b c 16#32 e)) := rfl
  rw [s5, s4, s3, s2, s1, roundsA]
  simp only [mixLane_eq _ _ (show (24#32 : BitVec 32).toNat < 32 by decide) (show (8#32 : BitVec 32).toNat < 32 by decide),
    mixLane_eq _ _ (show (13#32 : BitVec 32).toNat < 32 by decide) (show (19#32 : BitVec 32).toNat < 32 by decide),
    mixLane_eq _ _ (show (15#32 : BitVec 32).toNat < 32 by decide) (show (17#32 : BitVec 32).toNat < 32 by decide),
    mixLane_eq _ _ (show (26#32 : BitVec 32).toNat < 32 by decide) (show (6#32 : BitVec 32).toNat < 32 by decide),
    mixLane_eq _ _ (show (6#32 : BitVec 32).toNat < 32 by decide) (show (26#32 : BitVec 32).toNat < 32 by decide)]

/-- The place of a block's element in the table of 1000000 columns counted row by row. -/
def placeNat (i : grid0.Coords) (e : S64x16384.Idx) : ℕ := (e 0).val * 1000000 + ((e 1).val + (i 0).val * 16384)

/-- The body's counter is that place and the second key word. -/
theorem counter_eq (i : grid0.Coords) (e : S64x16384.Idx) : k0_pay2 i e = BitVec.ofNat 32 (placeNat i e) + 42#32 := by
  unfold k0_pay2
  show iota .tc S64x16384 32 [0] iota_S64x16384_d0_w32 e * 1000000#32
    + (iota .tc S64x16384 32 [1] iota_S64x16384_d1_w32 e + BitVec.ofNat 32 (i 0).val * 16384#32) + 42#32 = _
  rw [iota_single_apply, iota_single_apply, placeNat, BitVec.ofNat_add, BitVec.ofNat_mul, BitVec.ofNat_add, BitVec.ofNat_mul]

/-- The two words the body ends on, the last key words added, are the scrambled counter. -/
theorem end_eq (i : grid0.Coords) (e : S64x16384.Idx) :
    ((endB i e, IntOp.addi (IntOp.addi (endA i e) 0#32) 5#32) : Pair)
      = scramble 0#32 42#32 third (0#32, BitVec.ofNat 32 (placeNat i e) + 42#32) := by
  have h1 := rounds_first i e
  have h2 := rounds_second keyWord (k0_pay9 i) (k0_pay10 i) e
  have h3 := rounds_third (midA i) (midB i) e
  have h4 := rounds_last keyWord (k0_pay32 (midA i) (midB i)) (k0_pay33 (midA i) (midB i)) (k0_pay34 (midA i) (midB i)) e
  rw [h1] at h2
  rw [← midA, ← midB] at h2
  rw [h2] at h3
  rw [h3, ← endA, ← endB] at h4
  rw [h4, counter_eq]
  rfl

/-- The element of the body's block from its two words. -/
theorem table_apply (a b : IVec S64x16384 32) (e : S64x16384.Idx) :
    k0_pay1 (F := Ideal) a b 0#32 e = -(Ideal.log (Race.held (IntOp.xori (b e) (IntOp.addi (IntOp.addi (a e) 0#32) 5#32)))) := by
  generalize hw : IntOp.xori (b e) (IntOp.addi (IntOp.addi (a e) 0#32) 5#32) = w
  have e1 : k0_pay1 (F := Ideal) a b 0#32 e = Ideal.ofBits .f32 0x00000000#32
      - Ideal.log (max (Ideal.ofBits .f32 0x00000000#32 - Ideal.log1p (Ideal.ofBits .f32 0x00000000#32
        - (Ideal.ofBits .f32 (IntOp.ori (IntOp.shrui .vector (IntOp.xori (b e) (IntOp.addi (IntOp.addi (a e) 0#32) 5#32)) 9#32) 1065353216#32)
          - Ideal.ofBits .f32 0x3F800000#32))) (Ideal.ofBits .f32 0x2EDBE6FF#32)) := rfl
  rw [e1, hw, Ideal.ofBits_zero_f32, zero_sub, zero_sub, zero_sub]
  rfl

/-- An element of the body's block is minus the logarithm of the noise of its place's word. -/
theorem tableBlock_apply (i : grid0.Coords) (e : S64x16384.Idx) :
    tableBlock (F := Ideal) i e = -(Ideal.log (Race.held (word (placeNat i e)))) := by
  have h := end_eq i e
  rw [tableBlock, table_apply, word, ← h]

end Cert.KernelIdeal.Hand

end
-- ==== Proof.Best.lean ====
/-
  The least index of a greatest value, found one element at a time or one block at a time; and what a fold of a choice
  between two values returns.
-/
module

public import Mathlib.Order.BoundedOrder.Basic
public import Mathlib.Order.Defs.LinearOrder
public import Idealize.ShloMosaic.PureOps.Reduce

@[expose] public section

namespace Cert.Best

variable {α β : Type} [LinearOrder α] [LinearOrder β]

/-- The least index of a greatest value among the first `n` (zero when there is none). -/
def best (s : ℕ → α) : ℕ → ℕ
  | 0 => 0
  | n + 1 => if s (best s n) < s n then n else best s n

/-- What it is to be that index. -/
structure IsBest (s : ℕ → α) (n i : ℕ) : Prop where
  lt : i < n
  le : ∀ j, j < n → s j ≤ s i
  first : ∀ j, j < i → s j < s i

/-- There is no other. -/
theorem IsBest.unique {s : ℕ → α} {n i k : ℕ} (hi : IsBest s n i) (hk : IsBest s n k) : i = k := by
  rcases lt_trichotomy i k with h | h | h
  · exact absurd (hi.le k hk.lt) (not_le.mpr (hk.first i h))
  · exact h
  · exact absurd (hk.le i hi.lt) (not_le.mpr (hi.first k h))

/-- `best` is it. -/
theorem best_isBest (s : ℕ → α) : ∀ n, IsBest s (n + 1) (best s (n + 1))
  | 0 => by
    have e : best s 1 = 0 := by show (if s 0 < s 0 then 0 else 0) = 0; split <;> rfl
    rw [e]
    exact ⟨Nat.one_pos, fun j h => by rw [Nat.lt_one_iff.mp h], fun j h => absurd h (Nat.not_lt_zero j)⟩
  | n + 1 => by
    have ih := best_isBest s n
    rw [best]
    by_cases h : s (best s (n + 1)) < s (n + 1)
    · rw [if_pos h]
      exact ⟨Nat.lt_succ_self _, fun j hj => (Nat.lt_succ_iff_lt_or_eq.mp hj).elim (fun hj => ((ih.le j hj).trans_lt h).le) fun e => by rw [e],
        fun j hj => (ih.le j hj).trans_lt h⟩
    · rw [if_neg h]
      exact ⟨ih.lt.trans (Nat.lt_succ_self _), fun j hj => (Nat.lt_succ_iff_lt_or_eq.mp hj).elim (ih.le j) fun e => by rw [e]; exact not_lt.mp h, ih.first⟩

/-- So whatever is it, is `best`. -/
theorem best_eq {s : ℕ → α} {n i : ℕ} (h : IsBest s n i) : best s n = i := by
  obtain ⟨n, rfl⟩ : ∃ k, n = k + 1 := ⟨n - 1, by have := h.lt; omega⟩
  exact (best_isBest s n).unique h

/-- Two sequences in the same order have the same best index. -/
theorem best_congr (s : ℕ → α) (r : ℕ → β) (n : ℕ) (h : ∀ i j, i < n → j < n → (r i < r j ↔ s i < s j)) : best r n = best s n := by
  cases n with
  | zero => rfl
  | succ n =>
    have hs := best_isBest s n
    exact best_eq ⟨hs.lt, fun j hj => not_lt.mp fun hlt => absurd ((h _ _ hs.lt hj).mp hlt) (not_lt.mpr (hs.le j hj)),
      fun j hj => (h _ _ (hj.trans hs.lt) hs.lt).mpr (hs.first j hj)⟩

/-- Nothing past the end that is least of all matters. -/
theorem best_tail [OrderBot α] (s : ℕ → α) (n m : ℕ) (hn : 0 < n) (hm : n ≤ m) (h : ∀ j, n ≤ j → s j = ⊥) : best s m = best s n := by
  obtain ⟨n, rfl⟩ : ∃ k, n = k + 1 := ⟨n - 1, by omega⟩
  have hs := best_isBest s n
  exact best_eq ⟨hs.lt.trans_le hm, fun j _ => (Nat.lt_or_ge j (n + 1)).elim (hs.le j) fun hj => by rw [h j hj]; exact bot_le, hs.first⟩

/-- A running best: its value, after the first `n`. -/
structure Running [OrderBot α] (s : ℕ → α) (n : ℕ) (v : α) : Prop where
  le : ∀ j, j < n → s j ≤ v
  val : v = if n = 0 then ⊥ else s (best s n)

/-- Nothing seen. -/
theorem Running.zero [OrderBot α] (s : ℕ → α) : Running s 0 ⊥ := ⟨fun j h => absurd h (Nat.not_lt_zero j), by rw [if_pos rfl]⟩

/-- One more block of `w` values, `m` the greatest of them and `i` its least index, moves the best index to `i` exactly when `m` exceeds the
    value held. -/
theorem Running.step [OrderBot α] {s : ℕ → α} {n w : ℕ} {v m : α} {i : ℕ} (hr : Running s n v) (hw : n ≤ i ∧ i < n + w)
    (hm : ∀ j, n ≤ j → j < n + w → s j ≤ m) (hi : s i = m) (hl : ∀ j, n ≤ j → j < i → s j ≠ m) :
    best s (n + w) = (if v < m then i else best s n) ∧ Running s (n + w) (if v < m then m else v) := by
  have hle : ∀ j, j < n + w → s j ≤ (if v < m then m else v) := fun j hj => by
    by_cases h : v < m
    · rw [if_pos h]; exact (Nat.lt_or_ge j n).elim (fun h' => ((hr.le j h').trans_lt h).le) fun h' => hm j h' hj
    · rw [if_neg h]; exact (Nat.lt_or_ge j n).elim (hr.le j) fun h' => (hm j h' hj).trans (not_lt.mp h)
  have hb : IsBest s (n + w) (if v < m then i else best s n) ∧ s (if v < m then i else best s n) = (if v < m then m else v) := by
    by_cases h : v < m
    · rw [if_pos h, if_pos h]
      refine ⟨⟨hw.2, fun j hj => ?_, fun j hj => ?_⟩, hi⟩
      · have := hle j hj; rwa [if_pos h, ← hi] at this
      · rw [hi]
        exact (Nat.lt_or_ge j n).elim (fun h' => (hr.le j h').trans_lt h) fun h' => lt_of_le_of_ne (hm j h' (hj.trans hw.2)) (hl j h' hj)
    · rw [if_neg h, if_neg h]
      have hv := hr.val
      have hsv : s (best s n) = v := by
        by_cases h0 : n = 0
        · rw [if_pos h0] at hv
          subst h0
          show s 0 = v
          have := hle 0 (by omega)
          rw [if_neg h, hv] at this
          rw [hv]; exact le_bot_iff.mp this
        · rw [if_neg h0] at hv; exact hv.symm
      refine ⟨⟨?_, fun j hj => ?_, fun j hj => ?_⟩, hsv⟩
      · cases n with
        | zero => show 0 < 0 + w; omega
        | succ n => have := (best_isBest s n).lt; omega
      · have := hle j hj; rwa [if_neg h, ← hsv] at this
      · cases n with
        | zero => exact absurd hj (Nat.not_lt_zero j)
        | succ n => exact (best_isBest s n).first j hj
  have e := best_eq hb.1
  refine ⟨e, hle, ?_⟩
  rw [if_neg (show ¬ n + w = 0 by omega), e, hb.2]

/-- A fold of a choice between two values returns the initial value or one of the list's, and stands above them all. -/
theorem foldl_choice {γ : Type} (f : γ → γ → γ) (R : γ → γ → Prop) (refl : ∀ a, R a a) (trans : ∀ a b c, R a b → R b c → R a c)
    (hf : ∀ a b, f a b = a ∨ f a b = b) (hl : ∀ a b, R a (f a b)) (hr : ∀ a b, R b (f a b)) :
    ∀ (L : List γ) (a : γ), (L.foldl f a = a ∨ L.foldl f a ∈ L) ∧ R a (L.foldl f a) ∧ ∀ x ∈ L, R x (L.foldl f a)
  | [], a => ⟨.inl rfl, refl a, fun _ h => nomatch h⟩
  | b :: L, a => by
    obtain ⟨h1, h2, h3⟩ := foldl_choice f R refl trans hf hl hr L (f a b)
    refine ⟨?_, trans _ _ _ (hl a b) h2, fun x hx => ?_⟩
    · rw [List.foldl_cons]
      rcases h1 with h1 | h1
      · rw [h1]
        rcases hf a b with h | h
        · exact .inl h
        · exact .inr (by rw [h]; exact List.mem_cons_self)
      · exact .inr (List.mem_cons_of_mem _ h1)
    · rcases List.mem_cons.mp hx with rfl | hx
      · exact trans _ _ _ (hr a x) h2
      · exact h3 x hx

end Cert.Best
-- ==== Proof.Fold.lean ====
/-
  Reductions that keep one of their elements: the greatest, or the least.
-/
module

public import proofs.«01_k».proof.Proof.Best
public import Idealize.ShloMosaic.Lib.Pipeline.Value
public import Idealize.ShloMosaic.Lib.IdealHost
public import Idealize.ShloMosaic.Lib.ReduceAll

@[expose] public section

noncomputable section

namespace Cert.Fold

open Idealize.ShloMosaic

variable {s t u : Shape} {axes : List (Fin s.rank)}

/-- A fold over the elements at some indices, by an operation that keeps one of its two, is its start or one of the elements, and all of those are below it. -/
theorem foldl_at {γ ι : Type} (f : γ → γ → γ) (R : γ → γ → Prop) (refl : ∀ a, R a a) (trans : ∀ a b c, R a b → R b c → R a c)
    (hf : ∀ a b, f a b = a ∨ f a b = b) (hl : ∀ a b, R a (f a b)) (hr : ∀ a b, R b (f a b)) (x : ι → γ) (L : List ι) (a : γ) :
    (L.foldl (fun r i => f r (x i)) a = a ∨ ∃ i ∈ L, L.foldl (fun r i => f r (x i)) a = x i)
      ∧ R a (L.foldl (fun r i => f r (x i)) a) ∧ ∀ i ∈ L, R (x i) (L.foldl (fun r i => f r (x i)) a) := by
  obtain ⟨h1, h2, h3⟩ := Best.foldl_choice f R refl trans hf hl hr (L.map x) a
  rw [List.foldl_map] at h1 h2 h3
  refine ⟨h1.imp id fun h => ?_, h2, fun i hi => h3 _ (List.mem_map_of_mem hi)⟩
  obtain ⟨i, hi, e⟩ := List.mem_map.mp h
  exact ⟨i, hi, e.symm⟩

/-- The indices a reduction to `j` runs over are those that drop to `j`. -/
theorem mem_fiber (drop : s.Idx → t.Idx) (j : t.Idx) (i : s.Idx) :
    i ∈ ((List.finRange s.numel).map s.rowMajor.symm).filter (fun i => drop i = j) ↔ drop i = j := by
  rw [List.mem_filter, decide_eq_true_eq]
  exact ⟨fun h => h.2, fun h => ⟨List.mem_map.mpr ⟨s.rowMajor i, List.mem_finRange _, Equiv.symm_apply_apply _ _⟩, h⟩⟩

/-- A fold by the greater of two extended reals over the indices that drop to `j`. -/
theorem max_fiber (drop : s.Idx → t.Idx) (x : s.Idx → EReal) (a : EReal) (j : t.Idx) (M : EReal)
    (hM : M = (((List.finRange s.numel).map s.rowMajor.symm).filter fun i => drop i = j).foldl (fun r i => FloatOps.maximumf (F := Ideal) (φ := .f32) r (x i)) a) :
    (M = a ∨ ∃ i, drop i = j ∧ M = x i) ∧ a ≤ M ∧ ∀ i, drop i = j → x i ≤ M := by
  obtain ⟨h1, h2, h3⟩ := foldl_at (fun a b : EReal => FloatOps.maximumf (F := Ideal) (φ := .f32) a b) (· ≤ ·) (fun _ => le_rfl) (fun _ _ _ => le_trans)
    (fun a b => max_choice a b) (fun a b => le_max_left a b) (fun a b => le_max_right a b) x
    (((List.finRange s.numel).map s.rowMajor.symm).filter fun i => drop i = j) a
  rw [← hM] at h1 h2 h3
  exact ⟨h1.imp id fun ⟨i, hi, e⟩ => ⟨i, (mem_fiber drop j i).mp hi, e⟩, h2, fun i hi => h3 i ((mem_fiber drop j i).mpr hi)⟩

/-- A host reduction by the greater of two extended reals. -/
theorem host_max (x : FVec Ideal s .f32) (init : FVec Ideal u .f32) (h : s.ReducesTo axes t) (hu : 0 < u.numel) (j : t.Idx) :
    (Host.reduce FloatOps.maximumf x init h hu j = init (Shape.Idx.first hu) ∨ ∃ i, h.drop i = j ∧ Host.reduce FloatOps.maximumf x init h hu j = x i)
      ∧ init (Shape.Idx.first hu) ≤ Host.reduce FloatOps.maximumf x init h hu j ∧ ∀ i, h.drop i = j → x i ≤ Host.reduce FloatOps.maximumf x init h hu j :=
  max_fiber h.drop x (init (Shape.Idx.first hu)) j _ (Host.reduce_eq_foldl _ _ _ _ _ _)

/-- A kernel's reduction by the greater of two extended reals. -/
theorem kernel_max (x : FVec Ideal s .f32) (acc : BitVec 32) (h : s.Reduces axes t) (hφ : FKind.Formats .f32) (hacc : acc = FKind.maximumf.neutral .f32 hφ) (j : t.Idx) :
    (multiReduction .maximumf axes t x acc h hφ hacc j = Ideal.ofBits .f32 acc ∨ ∃ i, h.drop i = j ∧ multiReduction .maximumf axes t x acc h hφ hacc j = x i)
      ∧ Ideal.ofBits .f32 acc ≤ multiReduction .maximumf axes t x acc h hφ hacc j ∧ ∀ i, h.drop i = j → x i ≤ multiReduction .maximumf axes t x acc h hφ hacc j :=
  max_fiber h.drop x (Ideal.ofBits .f32 acc) j _ (by rw [multiReduction_maximumf_eq_reduceFold, reduceFold_eq_foldl]; rfl)

/-- The lesser of two signed words is one of them and at most both. -/
theorem minsi_spec (a b : BitVec 32) :
    (IntOp.minsi a b = a ∨ IntOp.minsi a b = b) ∧ (IntOp.minsi a b).toInt ≤ a.toInt ∧ (IntOp.minsi a b).toInt ≤ b.toInt := by
  unfold IntOp.minsi
  by_cases h : a.slt b
  · have h' := BitVec.slt_iff_toInt_lt.mp h
    simp [h, h'.le]
  · have h' : ¬ a.toInt < b.toInt := fun h' => h (BitVec.slt_iff_toInt_lt.mpr h')
    simp [h]; omega

/-- A kernel's reduction by the lesser of two signed words. -/
theorem kernel_min (x : IVec s 32) (acc : BitVec 32) (h : s.Reduces axes t) (hacc : acc = IKind.minsi.neutral) (j : t.Idx) :
    (multiReductionI .minsi axes t x acc h hacc j = acc ∨ ∃ i, h.drop i = j ∧ multiReductionI .minsi axes t x acc h hacc j = x i)
      ∧ (multiReductionI .minsi axes t x acc h hacc j).toInt ≤ acc.toInt ∧ ∀ i, h.drop i = j → (multiReductionI .minsi axes t x acc h hacc j).toInt ≤ (x i).toInt := by
  obtain ⟨h1, h2, h3⟩ := foldl_at IntOp.minsi (fun a b : BitVec 32 => b.toInt ≤ a.toInt) (fun _ => le_rfl) (fun _ _ _ h h' => h'.trans h)
    (fun a b => (minsi_spec a b).1) (fun a b => (minsi_spec a b).2.1) (fun a b => (minsi_spec a b).2.2) x
    (((List.finRange s.numel).map s.rowMajor.symm).filter fun i => h.drop i = j) acc
  have e : multiReductionI .minsi axes t x acc h hacc j
      = (((List.finRange s.numel).map s.rowMajor.symm).filter fun i => h.drop i = j).foldl (fun r i => IntOp.minsi r (x i)) acc := by
    rw [multiReductionI_eq_reduceFold, reduceFold_eq_foldl]; rfl
  rw [← e] at h1 h2 h3
  exact ⟨h1.imp id fun ⟨i, hi, e⟩ => ⟨i, (mem_fiber h.drop j i).mp hi, e⟩, h2, fun i hi => h3 i ((mem_fiber h.drop j i).mpr hi)⟩

end Cert.Fold

end
-- ==== Proof.KernelIdeal.Block.lean ====
/-
  One block of the second launch on the extended reals: its greatest score, that score's least column, and what both do to the running best.
-/
module

public import proofs.«01_k».proof.Proof.KernelIdeal.Score
public import proofs.«01_k».proof.Proof.Fold

@[expose] public section

set_option maxRecDepth 16384

noncomputable section

namespace Cert.KernelIdeal.Hand

open Cert.KernelIdeal Cert.KernelIdeal.Gen
open Idealize.ShloMosaic Idealize.ShloMosaic.TcCoe

/-- A row's place in a vector of one number per row. -/
def spot {n : ℕ} (r : Fin n) : (⟨1, ![n]⟩ : Shape).Idx := fun | 0 => r

/-- The element of a block in row `r` and column `k`. -/
def entry (r : Fin 8) (k : Fin 262144) : S8x262144.Idx := fun | 0 => r | 1 => k

/-- A vector made a column keeps its numbers. -/
theorem column_apply {α : Type} {n : ℕ} (v : (⟨1, ![n]⟩ : Shape).Idx → α) (h : (⟨1, ![n]⟩ : Shape).ShapeCasts ⟨2, ![n, 1]⟩) (r : Fin n) :
    shapeCast ⟨2, ![n, 1]⟩ v h (cell r) = v (spot r) :=
  shapeCast_apply v h _ _ (by
    rw [Shape.rowMajor_val_two, Shape.rowMajor_val_one]
    show r.val = r.val * 1 + 0
    omega)

/-- An element of a block drops to its row. -/
theorem drop_spot (j : S8x262144.Idx) (r : Fin 8) : reduces_S8x262144_S8.drop j = spot r ↔ j 0 = r := by
  have hv : ((reduces_S8x262144_S8 : S8x262144.Reduces [1] S8).drop j 0).val = (j 0).val := Shape.Reduces.drop_apply_val_of_eq _ j 0 0
  constructor
  · intro h
    exact Fin.ext (hv.symm.trans (congrArg (fun f : S8.Idx => (f 0).val) h))
  · intro h
    funext a
    match a with
    | 0 => exact Fin.ext (hv.trans (congrArg Fin.val h))

/-- The columns of a block's scores equal to its greatest, and a great number elsewhere. -/
def candidates (i : grid1.Coords) (x g : Vec Ideal S8x262144 .f32) (t : Vec Ideal S8x1 .f32) : IVec S8x262144 32 :=
  select (cmpf .oeq (k1_pay5 i x t g) (broadcastTo S8x262144 (k1_pay6 i x t g) broadcasts_S8x1_S8x262144)) (k1_pay4 i) (broadcast S8x262144 1073741824#32)

/-- The least of them in each row. -/
def blockCol (i : grid1.Coords) (x g : Vec Ideal S8x262144 .f32) (t : Vec Ideal S8x1 .f32) : IVec S8 32 :=
  multiReductionI .minsi [1] S8 (candidates i x g t) 2147483647#32 reduces_S8x262144_S8 rfl

/-- A candidate is the column where the score is the greatest. -/
theorem candidates_apply (i : grid1.Coords) (x g : Vec Ideal S8x262144 .f32) (t : Vec Ideal S8x1 .f32) (j : S8x262144.Idx) :
    candidates i x g t j = if (k1_pay5 i x t g j : EReal) = k1_pay6 i x t g (cell (j 0)) then BitVec.ofNat 32 (colNat i j) else 1073741824#32 := by
  have e : candidates i x g t j = Scalar.select (FloatOps.cmpf .oeq (k1_pay5 i x t g j)
      (broadcastTo S8x262144 (k1_pay6 i x t g) broadcasts_S8x1_S8x262144 j)) (k1_pay4 i j) 1073741824#32 := by unfold candidates select cmpf broadcast; rfl
  rw [e, col_eq, broadcastTo_apply (k1_pay6 i x t g) broadcasts_S8x1_S8x262144 j (cell (j 0)) (fun a => by fin_cases a <;> rfl)]
  simp only [Ideal.cmpf_def, Ideal.cmp, Scalar.select]
  by_cases h : (k1_pay5 i x t g j : EReal) = k1_pay6 i x t g (cell (j 0)) <;> simp [h]

/-- The greatest score of a block's row. -/
theorem blockMax_eq (i : grid1.Coords) (x g : Vec Ideal S8x262144 .f32) (t : Vec Ideal S8x1 .f32) (r : Fin 8) :
    k1_pay6 i x t g (cell r) = multiReduction .maximumf [1] S8 (k1_pay5 i x t g) 0xFF800000#32 reduces_S8x262144_S8 (.inl rfl) rfl (spot r) := by
  unfold k1_pay6
  exact column_apply _ _ r

/-- A column's word, as a signed number, is the column. -/
theorem toInt_small {k : ℕ} (h : k < 1048576) : (BitVec.ofNat 32 k).toInt = k := by
  rw [BitVec.toInt_eq_toNat_of_lt] <;> rw [BitVec.toNat_ofNat, Nat.mod_eq_of_lt (by omega)]
  omega

/-- If a row's scores in a block are those of a sequence at the block's columns, the block's greatest score is the sequence's greatest there and the
    block's column is the first it is found at. -/
theorem block_best (i : grid1.Coords) (x g : Vec Ideal S8x262144 .f32) (t : Vec Ideal S8x1 .f32) (r : Fin 8) (s : ℕ → EReal)
    (hs : ∀ j : S8x262144.Idx, j 0 = r → k1_pay5 i x t g j = s (colNat i j)) :
    ∃ k, ((i 1).val * 262144 ≤ k ∧ k < (i 1).val * 262144 + 262144) ∧ s k = k1_pay6 i x t g (cell r)
      ∧ (∀ l, (i 1).val * 262144 ≤ l → l < (i 1).val * 262144 + 262144 → s l ≤ k1_pay6 i x t g (cell r))
      ∧ (∀ l, (i 1).val * 262144 ≤ l → l < k → s l ≠ k1_pay6 i x t g (cell r))
      ∧ blockCol i x g t (spot r) = BitVec.ofNat 32 k := by
  obtain ⟨h1, -, h3⟩ := Fold.kernel_max (k1_pay5 i x t g) 0xFF800000#32 reduces_S8x262144_S8 (.inl rfl) rfl (spot r)
  obtain ⟨c1, -, c3⟩ := Fold.kernel_min (candidates i x g t) 2147483647#32 reduces_S8x262144_S8 rfl (spot r)
  rw [← blockMax_eq] at h1 h3
  rw [← blockCol] at c1 c3
  generalize hm : k1_pay6 i x t g (cell r) = m at h1 h3
  generalize blockCol i x g t (spot r) = w at c1 c3
  have hle : ∀ j : S8x262144.Idx, j 0 = r → s (colNat i j) ≤ m := fun j hj => by rw [← hs j hj]; exact h3 j ((drop_spot j r).mpr hj)
  -- some element attains the greatest score
  obtain ⟨j0, hj0, e0⟩ : ∃ j : S8x262144.Idx, j 0 = r ∧ s (colNat i j) = m := by
    rcases h1 with h1 | ⟨j, hj, h1⟩
    · refine ⟨entry r 0, rfl, le_antisymm (hle _ rfl) ?_⟩
      rw [h1, show Ideal.ofBits .f32 0xFF800000#32 = (⊥ : EReal) by simp [Ideal.ofBits, Ideal.ieee]]
      exact bot_le
    · exact ⟨j, (drop_spot j r).mp hj, by rw [← hs j ((drop_spot j r).mp hj), ← h1]⟩
  have hcand : ∀ j : S8x262144.Idx, j 0 = r → candidates i x g t j = if s (colNat i j) = m then BitVec.ofNat 32 (colNat i j) else 1073741824#32 := fun j hj => by
    rw [candidates_apply, hs j hj, hj, hm]
  have hat : ∀ j : S8x262144.Idx, j 0 = r → s (colNat i j) = m → w.toInt ≤ colNat i j := fun j hj e => by
    have := c3 j ((drop_spot j r).mpr hj)
    rwa [hcand j hj, if_pos e, toInt_small (colNat_lt i j)] at this
  have hw := hat j0 hj0 e0
  have hb := colNat_lt i j0
  have hcol : ∀ l, (i 1).val * 262144 ≤ l → (h : l < (i 1).val * 262144 + 262144) → colNat i (entry r ⟨l - (i 1).val * 262144, by omega⟩) = l := fun l hl h =>
    show l - (i 1).val * 262144 + (i 1).val * 262144 = l by omega
  rcases c1 with c1 | ⟨j, hj, c1⟩
  · rw [c1] at hw
    exact absurd hw (by rw [show (2147483647#32 : BitVec 32).toInt = 2147483647 by decide]; omega)
  have hjr := (drop_spot j r).mp hj
  rw [hcand j hjr] at c1
  by_cases e : s (colNat i j) = m
  · rw [if_pos e] at c1
    have hj1 : (j 1).val < 262144 := (j 1).isLt
    refine ⟨colNat i j, ⟨by unfold colNat; omega, by unfold colNat; omega⟩, e, fun l hl h => ?_, fun l hl h h' => ?_, c1⟩
    · rw [← hcol l hl h]; exact hle _ rfl
    · have hlt : l < (i 1).val * 262144 + 262144 := by unfold colNat at h; omega
      have := hat (entry r ⟨l - (i 1).val * 262144, by omega⟩) rfl (by rw [hcol l hl hlt]; exact h')
      rw [hcol l hl hlt, c1, toInt_small (colNat_lt i j)] at this
      omega
  · rw [if_neg e] at c1
    rw [c1] at hw
    exact absurd hw (by rw [show (1073741824#32 : BitVec 32).toInt = 1073741824 by decide]; omega)

/-- The comparison of two vectors of extended reals at an index. -/
theorem greater_apply {s : Shape} (a b : FVec Ideal s .f32) (e : s.Idx) : cmpf .ogt a b e = if (b e : EReal) < a e then 1#1 else 0#1 := by
  have h : cmpf .ogt a b e = FloatOps.cmpf .ogt (a e) (b e) := rfl
  rw [h]
  simp only [Ideal.cmpf_def, Ideal.cmp]
  by_cases hlt : (b e : EReal) < a e <;> simp [hlt]

/-- Whether the block's greatest score exceeds the one held. -/
theorem exceeds_apply (i : grid1.Coords) (x g : Vec Ideal S8x262144 .f32) (t v : Vec Ideal S8x1 .f32) (e : S8x1.Idx) :
    k1_pay7 i x t g v e = if (v e : EReal) < k1_pay6 i x t g e then 1#1 else 0#1 := by
  unfold k1_pay7
  exact greater_apply _ _ e

/-- The score held after the block. -/
theorem stepVal_apply (i : grid1.Coords) (x g : Vec Ideal S8x262144 .f32) (t v : Vec Ideal S8x1 .f32) (e : S8x1.Idx) :
    stepVal i x g t v e = if (startVal i v e : EReal) < k1_pay6 i x t g e then k1_pay6 i x t g e else startVal i v e := by
  have h : stepVal i x g t v e = Scalar.select (k1_pay7 i x t g (startVal i v) e) (k1_pay6 i x t g e) (startVal i v e) := by
    unfold stepVal k1_pay1
    rw [shapeCast_self]; rfl
  rw [h, exceeds_apply, Scalar.select]
  by_cases hlt : (startVal i v e : EReal) < k1_pay6 i x t g e <;> simp [hlt]

/-- The column held after the block. -/
theorem stepIdx_apply (i : grid1.Coords) (x g : Vec Ideal S8x262144 .f32) (t v : Vec Ideal S8x1 .f32) (k : Vec Ideal S8x1 .i32) (r : Fin 8) :
    stepIdx i x g t v k (cell r) = if (startVal i v (cell r) : EReal) < k1_pay6 i x t g (cell r) then blockCol i x g t (spot r) else startIdx (F := Ideal) i k (cell r) := by
  have h : stepIdx i x g t v k (cell r)
      = Scalar.select (k1_pay7 i x t g (startVal i v) (cell r)) (shapeCast S8x1 (blockCol i x g t) shapeCasts_S8_S8x1 (cell r)) (startIdx (F := Ideal) i k (cell r)) := by
    unfold stepIdx k1_pay8
    rw [shapeCast_self]; rfl
  rw [h, exceeds_apply, Scalar.select, column_apply]
  by_cases hlt : (startVal i v (cell r) : EReal) < k1_pay6 i x t g (cell r) <;> simp [hlt]

end Cert.KernelIdeal.Hand

end
-- ==== Proof.KernelIdeal.Carried.lean ====
/-
  The running best of a row over its column blocks, on the extended reals.

  If a row's scores at the points of its row block are a sequence read at their columns, then after the last of them the index held is the
  sequence's best.
-/
module

public import proofs.«01_k».proof.Proof.KernelIdeal.Block
public import proofs.«01_k».proof.Proof.KernelIdeal.Sample
public import proofs.«01_k».proof.Proof.Best

@[expose] public section

set_option maxRecDepth 16384

noncomputable section

namespace Cert.KernelIdeal.Hand

open Cert.KernelIdeal Cert.KernelIdeal.Gen
open Idealize.ShloMosaic Idealize.ShloMosaic.TcCoe

/-- The pattern of minus infinity is the least number. -/
theorem least : Ideal.ofBits .f32 0xFF800000#32 = ⊥ := by simp [Ideal.ofBits, Ideal.ieee]

/-- One block more: if before it the value and the index held are the best of the first `n` scores, after it they are the best of the first
    `n + 262144`. -/
theorem row_step (i : grid1.Coords) (x g : Vec Ideal S8x262144 .f32) (t v : Vec Ideal S8x1 .f32) (k : IVec S8x1 32) (r : Fin 8) (s : ℕ → EReal)
    (hs : ∀ j : S8x262144.Idx, j 0 = r → k1_pay5 i x t g j = s (colNat i j)) (n : ℕ) (hn : (i 1).val * 262144 = n)
    (hv : Best.Running s n (startVal i v (cell r) : EReal)) (hk : startIdx (F := Ideal) i k (cell r) = BitVec.ofNat 32 (Best.best s n)) :
    Best.Running s (n + 262144) (stepVal i x g t v (cell r) : EReal) ∧
      stepIdx i x g t v k (cell r) = BitVec.ofNat 32 (Best.best s (n + 262144)) := by
  obtain ⟨l, hw, hi, hm, hl, hc⟩ := block_best i x g t r s hs
  rw [hn] at hw hm hl
  obtain ⟨h1, h2⟩ := hv.step hw hm hi hl
  rw [stepVal_apply, stepIdx_apply, hc, hk, h1]
  refine ⟨h2, ?_⟩
  split <;> rfl

/-- The first column block starts with nothing seen. -/
theorem row_start (i : grid1.Coords) (v : Vec Ideal S8x1 .f32) (k : IVec S8x1 32) (r : Fin 8) (s : ℕ → EReal) (h : isFirst i) :
    Best.Running s 0 (startVal i v (cell r) : EReal) ∧ startIdx (F := Ideal) i k (cell r) = BitVec.ofNat 32 (Best.best s 0) := by
  have e : (startVal i v (cell r) : EReal) = ⊥ := by unfold startVal; rw [if_pos h]; exact least
  rw [e]
  refine ⟨Best.Running.zero s, ?_⟩
  unfold startIdx; rw [if_pos h]; rfl

/-- A point is at the first column block exactly when four divides its number. -/
theorem isFirst_iff (t : Fin cfg1.N) : isFirst (grid1.coords t) ↔ t.val % 4 = 0 := by
  have e : (grid1.coords t 1).val = t.val / 1 % 4 := Pipeline.Grid.coords_val t 1 (by decide) rfl
  unfold isFirst
  rw [e, Nat.div_one]
  have h : t.val % 4 < 4 := Nat.mod_lt _ (by decide)
  revert h
  generalize t.val % 4 = q
  intro h
  interval_cases q <;> decide

/-- After a row block's column block number `q` the value and the index held are the best of the first `q + 1` blocks' scores. -/
theorem row_carried (W : Valuation τ sig (Elt Ideal)) (p : ℕ) (r : Fin 8) (s : ℕ → EReal)
    (hs : ∀ t : Fin cfg1.N, t.val / 4 = p → ∀ j : S8x262144.Idx, j 0 = r →
      k1_pay5 (grid1.coords t) (inX W t) (inT W t) (inG W t) j = s (colNat (grid1.coords t) j)) :
    ∀ (q : ℕ) (_ : q < 4) (t : Fin cfg1.N) (_ : t.val = 4 * p + q),
      Best.Running s (q * 262144 + 262144) ((carried W (t.val + 1)).1 (cell r) : EReal) ∧
        (carried W (t.val + 1)).2 (cell r) = BitVec.ofNat 32 (Best.best s (q * 262144 + 262144)) := by
  intro q
  induction q with
  | zero =>
    intro _ t ht
    have e : (grid1.coords t 1).val = t.val / 1 % 4 := Pipeline.Grid.coords_val t 1 (by decide) rfl
    obtain ⟨a, b⟩ := row_start (grid1.coords t) (carried W t.val).1 (carried W t.val).2 r s ((isFirst_iff t).mpr (by omega))
    have h := row_step (grid1.coords t) (inX W t) (inG W t) (inT W t) (carried W t.val).1 (carried W t.val).2 r s (hs t (by omega)) 0
      (by rw [e]; omega) a b
    rw [carried_succ, Nat.zero_mul]
    dsimp only
    exact h
  | succ q ih =>
    intro hq t ht
    have e : (grid1.coords t 1).val = t.val / 1 % 4 := Pipeline.Grid.coords_val t 1 (by decide) rfl
    obtain ⟨a, b⟩ := ih (by omega) ⟨t.val - 1, by have := t.isLt; omega⟩ (by show t.val - 1 = _; omega)
    have e1 : (⟨t.val - 1, by have := t.isLt; omega⟩ : Fin cfg1.N).val + 1 = t.val := by show t.val - 1 + 1 = _; omega
    rw [e1] at a b
    have nf : ¬ isFirst (grid1.coords t) := fun h => by have := (isFirst_iff t).mp h; omega
    have h := row_step (grid1.coords t) (inX W t) (inG W t) (inT W t) (carried W t.val).1 (carried W t.val).2 r s (hs t (by omega))
      (q * 262144 + 262144) (by rw [e]; omega) (by unfold startVal; rw [if_neg nf]; exact a) (by unfold startIdx; rw [if_neg nf]; exact b)
    rw [carried_succ, Nat.succ_mul]
    dsimp only
    exact h

/-- After the last of them the index held is the best index of the scores inside the array, those past its end being least. -/
theorem row_done (W : Valuation τ sig (Elt Ideal)) (t : Fin cfg1.N) (ht : t.val % 4 = 3) (r : Fin 8) (s : ℕ → EReal)
    (hb : ∀ n, 1000000 ≤ n → s n = ⊥)
    (hs : ∀ u : Fin cfg1.N, u.val / 4 = t.val / 4 → ∀ j : S8x262144.Idx, j 0 = r →
      k1_pay5 (grid1.coords u) (inX W u) (inT W u) (inG W u) j = s (colNat (grid1.coords u) j)) :
    (carried W (t.val + 1)).2 (cell r) = BitVec.ofNat 32 (Best.best s 1000000) := by
  have h := (row_carried W (t.val / 4) r s hs 3 (by omega) t (by omega)).2
  rw [h, Best.best_tail s 1000000 _ (by omega) (by omega) hb]

end Cert.KernelIdeal.Hand

end
-- ==== Proof.KernelIdeal.Inputs.lean ====
/-
  What the second launch's blocks hold, in terms of its arrays; the two result arrays.
-/
module

public import proofs.«01_k».proof.Proof.KernelIdeal.Run
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The element of an array in row `r` and column `k`. -/
def at2 {n w : ℕ} (r : Fin n) (k : Fin w) : (⟨2, ![n, w]⟩ : Shape).Idx := fun | 0 => r | 1 => k

/-- The logits' and the table's blocks are at the point's two coordinates; -/
theorem index1_0 (t : Fin cfg1.N) : win1_0.index t = ![(grid1.coords t 0).val, (grid1.coords t 1).val] :=
  (by decide +kernel : ∀ t : Fin grid1.N, win1_0.index t = ![(grid1.coords t 0).val, (grid1.coords t 1).val]) t

theorem index1_1 (t : Fin cfg1.N) : win1_1.index t = ![(grid1.coords t 0).val, (grid1.coords t 1).val] :=
  (by decide +kernel : ∀ t : Fin grid1.N, win1_1.index t = ![(grid1.coords t 0).val, (grid1.coords t 1).val]) t

/-- the other two windows' at the first. -/
theorem index1_2 (t : Fin cfg1.N) : win1_2.index t = ![(grid1.coords t 0).val, 0] :=
  (by decide +kernel : ∀ t : Fin grid1.N, win1_2.index t = ![(grid1.coords t 0).val, 0]) t

theorem index1_3 (t : Fin cfg1.N) : win1_3.index t = ![(grid1.coords t 0).val, 0] :=
  (by decide +kernel : ∀ t : Fin grid1.N, win1_3.index t = ![(grid1.coords t 0).val, 0]) t

/-- The logits' block at a column inside the array. -/
theorem inX_apply (W : Valuation τ sig (Elt F)) (t : Fin cfg1.N) (j : S8x262144.Idx) (h : colNat (grid1.coords t) j < 1000000) (r : Fin 64)
    (hr : r.val = (grid1.coords t 0).val * 8 + (j 0).val) :
    inX W t j = (W (Proc.devRef .tc main_arg0) : Vec F S64x1000000 .f32) (at2 r ⟨colNat (grid1.coords t) j, h⟩) := by
  unfold inX Pipeline.Window.fill
  rw [dif_pos (moved0 _ j h)]
  unfold blockAt
  blk_simp
  refine congrArg (W (Proc.devRef .tc main_arg0)) (funext fun a => Fin.ext ?_)
  match a with
  | 0 => blk_simp [index1_0]; exact hr.symm
  | 1 => blk_simp [index1_0]; exact Nat.add_comm _ _

/-- The table's likewise. -/
theorem inG_apply (W : Valuation τ sig (Elt F)) (t : Fin cfg1.N) (j : S8x262144.Idx) (h : colNat (grid1.coords t) j < 1000000) (r : Fin 64)
    (hr : r.val = (grid1.coords t 0).val * 8 + (j 0).val) :
    inG W t j = (W (Proc.devRef .tc main_v1) : Vec F S64x1000000 .f32) (at2 r ⟨colNat (grid1.coords t) j, h⟩) := by
  unfold inG Pipeline.Window.fill
  rw [dif_pos (moved1 _ j h)]
  unfold blockAt
  blk_simp
  refine congrArg (W (Proc.devRef .tc main_v1)) (funext fun a => Fin.ext ?_)
  match a with
  | 0 => blk_simp [index1_1]; exact hr.symm
  | 1 => blk_simp [index1_1]; exact Nat.add_comm _ _

/-- The temperatures' block. -/
theorem inT_apply (W : Valuation τ sig (Elt F)) (t : Fin cfg1.N) (p : Fin 8) (r : Fin 64) (hr : r.val = (grid1.coords t 0).val * 8 + p.val) :
    inT W t (cell p) = (W (Proc.devRef .tc main_call0_v0) : Vec F S64x1 .f32) (cell r) := by
  unfold inT blockAt
  blk_simp
  refine congrArg (W (Proc.devRef .tc main_call0_v0)) (funext fun a => Fin.ext ?_)
  match a with
  | 0 => blk_simp [index1_2]; exact hr.symm
  | 1 => blk_simp [index1_2]

/-- What the second launch leaves in its array: each row's index after the last column block of its row block. -/
def indices (W : Valuation τ sig (Elt F)) : Vec F S64x1 .i32 := fun e =>
  (carried W (4 * ((e 0).val / 8) + 3 + 1)).2 (cell ⟨(e 0).val % 8, Nat.mod_lt _ (by decide)⟩)

/-- At a row of a row block that is the row's index after the row block's last point. -/
theorem indices_apply (W : Valuation τ sig (Elt F)) (e : S64x1.Idx) (n : ℕ) (hn : n % 4 = 3) (p : Fin 8) (he : (e 0).val = n / 4 * 8 + p.val) :
    indices W e = (carried W (n + 1)).2 (cell p) := by
  have hp : p.val < 8 := p.isLt
  have h1 : 4 * ((e 0).val / 8) + 3 = n := by omega
  have h2 : (⟨(e 0).val % 8, Nat.mod_lt _ (by decide)⟩ : Fin 8) = p := Fin.ext (by show (e 0).val % 8 = _; omega)
  unfold indices
  rw [h1, h2]

/-- A column's element is its row's cell. -/
theorem eq_cell {n : ℕ} (y : (⟨2, ![n, 1]⟩ : Shape).Idx) : y = cell (y 0) := by
  funext a
  match a with
  | 0 => rfl
  | 1 => exact Fin.ext (by have h : (y 1).val < 1 := (y 1).isLt; show (y 1).val = 0; omega)

/-- The blocks written back at the last column blocks cover the array. -/
theorem array1 (W : Valuation τ sig (Elt F)) (c : Dev nD) : (dat1 W c).arrAt 3 cfg1.N = indices W := by
  refine (dat1 W c).arrAt_eq_of_covers 3 _ (by decide +kernel) fun t hf y => ?_
  have hq := (flush1_3 t).mp hf
  have e0 : (grid1.coords t 0).val = t.val / 4 % 8 := Pipeline.Grid.coords_val t 0 (by decide) rfl
  have ht : t.val < 32 := t.isLt
  have hv : (((cfg1.win 3).blk t).view.emb y 0).val = t.val / 4 * 8 + (y 0).val := by
    blk_simp [index1_3]; show (grid1.coords t 0).val * 8 + (y 0).val = _; omega
  blk_simp
  rw [dat1_after3]
  exact (congrArg (carried W (t.val + 1)).2 (eq_cell (n := 8) y)).trans (indices_apply W _ t.val hq (y 0) hv).symm

/-- The first launch's blocks are at the point's coordinate. -/
theorem index0_0 (t : Fin cfg0.N) : win0_0.index t = ![0, (grid0.coords t 0).val] :=
  (by decide +kernel : ∀ t : Fin grid0.N, win0_0.index t = ![0, (grid0.coords t 0).val]) t

/-- If every block of the first launch is a function of the row and of the column in the array, so is the array. -/
theorem array0 (W : Valuation τ sig (Elt F)) (c : Dev nD) (G : ℕ → ℕ → Elt F .f32)
    (hG : ∀ (i : grid0.Coords) (e : S64x16384.Idx), tableBlock (F := F) i e = G (e 0).val ((e 1).val + (i 0).val * 16384)) :
    (dat0 W c).arrAt 0 cfg0.N = ((fun e => G (e 0).val (e 1).val : S64x1015808.Idx → Elt F .f32)) := by
  refine (dat0 W c).arrAt_eq_of_covers 0 _ (by decide +kernel) fun t hf y => ?_
  blk_simp
  rw [dat0_after, hG, index0_0]
  show G (y 0).val _ = G (0 * 64 + (y 0).val) _
  rw [Nat.zero_mul, Nat.zero_add, Nat.add_comm]
  rfl

end Cert.KernelIdeal.Hand

end
-- ==== Proof.KernelIdeal.Value.lean ====
/-
  The kernel's result on the extended reals: in each row the index of the greatest score.
-/
module

public import proofs.«01_k».proof.Proof.KernelIdeal.TableValue
public import proofs.«01_k».proof.Proof.KernelIdeal.Carried
public import proofs.«01_k».proof.Proof.KernelIdeal.Inputs
public import Idealize.ShloMosaic.Lib.StableHlo.ReadAt

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo

variable (m : (ℓ : Loc nD τ sig) → Buf (Elt Ideal) ℓ) (c : Dev nD)

/-- The table's element in row `r` and column `k`: minus the logarithm of the noise of its place's word. -/
def gumbel (r k : ℕ) : EReal := -(Ideal.log (Race.held (Words.word (r * 1000000 + k))))

/-- The first launch leaves the table. -/
theorem mem1_table : (mem1 m c (Proc.devRef .tc main_v0) : Vec Ideal S64x1015808 .f32) = fun e => gumbel (e 0).val (e 1).val :=
  (Pipeline.afterRegion_arr (dat0 (mem0 m c) c) (mem0 m c) launch0.win.arr_inj 0).trans
    (array0 (mem0 m c) c gumbel fun i e => tableBlock_apply i e)

/-- The slice reads its operand at the same row and column. -/
theorem slice_apply {α : Type} (v : S64x1015808.Idx → α) (r : Fin 64) (k : Fin 1000000) :
    extractStridedSlice S64x1000000 ![0, 0] v slices_S64x1015808_S64x1000000_0_0 (at2 r k) = v (at2 r ⟨k.val, k.isLt.trans (by decide)⟩) := by
  unfold extractStridedSlice
  refine congrArg v (funext fun a => Fin.ext ?_)
  match a with
  | 0 => exact Nat.zero_add _
  | 1 => exact Nat.zero_add _

/-- The table that the second launch reads. -/
theorem table_read (r : Fin 64) (k : Fin 1000000) :
    (mem3 m c (Proc.devRef .tc main_v1) : Vec Ideal S64x1000000 .f32) (at2 r k) = gumbel r.val k.val := by
  have e : (mem2 m c (Proc.devRef .tc main_v1) : Vec Ideal S64x1000000 .f32)
      = extractStridedSlice S64x1000000 ![0, 0] (mem1 m c (Proc.devRef .tc main_v0)) slices_S64x1015808_S64x1000000_0_0 := by
    unfold mem2
    after_reads_simp
  rw [mem3_of m c main_v1 (by decide), e, slice_apply, mem1_table]
  rfl

/-- The temperatures that it reads. -/
theorem temperature_read (r : Fin 64) :
    (mem3 m c (Proc.devRef .tc main_call0_v0) : Vec Ideal S64x1 .f32) (cell r) = (m (c, Proc.devRef .tc main_arg1) : Vec Ideal S64 .f32) (spot r) := by
  have e : (mem3 m c (Proc.devRef .tc main_call0_v0) : Vec Ideal S64x1 .f32)
      = shapeCast S64x1 (mem2 m c (Proc.devRef .tc main_arg1) : Vec Ideal S64 .f32) shapeCasts_S64_S64x1 := by
    unfold mem3
    after_reads_simp
    rfl
  rw [e, mem2_of m c main_arg1 (by decide), mem1_of m c main_arg1 (by decide)]
  exact column_apply _ _ r

/-- The logits that it reads. -/
theorem logit_read : mem3 m c (Proc.devRef .tc main_arg0) = m (c, Proc.devRef .tc main_arg0) := by
  rw [mem3_of m c main_arg0 (by decide), mem2_of m c main_arg0 (by decide), mem1_of m c main_arg0 (by decide)]
  rfl

/-- The score of a row at a column; past the last column the least number. -/
def score (x : Vec Ideal S64x1000000 .f32) (t : Vec Ideal S64 .f32) (r : Fin 64) (k : ℕ) : EReal :=
  if h : k < 1000000 then (x (at2 r ⟨k, h⟩) : EReal) + (t (spot r) : EReal) * gumbel r.val k else ⊥

/-- A block's scores are those at its columns. -/
theorem block_score (t : Fin cfg1.N) (r : Fin 64) (p : Fin 8) (hr : r.val = (grid1.coords t 0).val * 8 + p.val) (j : S8x262144.Idx) (hj : j 0 = p) :
    k1_pay5 (grid1.coords t) (inX (mem3 m c) t) (inT (mem3 m c) t) (inG (mem3 m c) t) j
      = score (m (c, Proc.devRef .tc main_arg0)) (m (c, Proc.devRef .tc main_arg1)) r (colNat (grid1.coords t) j) := by
  rw [score_apply]
  unfold score
  by_cases h : colNat (grid1.coords t) j < 1000000
  · rw [if_pos h, dif_pos h, inX_apply _ t j h r (by rw [hr, hj]), inG_apply _ t j h r (by rw [hr, hj]), hj, inT_apply _ t p r hr, table_read,
      temperature_read, logit_read]
    rfl
  · rw [if_neg h, dif_neg h]; exact least

/-- A column made a vector keeps its numbers. -/
theorem vector_apply {α : Type} {n : ℕ} (v : (⟨2, ![n, 1]⟩ : Shape).Idx → α) (h : (⟨2, ![n, 1]⟩ : Shape).ShapeCasts ⟨1, ![n]⟩) (r : Fin n) :
    shapeCast ⟨1, ![n]⟩ v h (spot r) = v (cell r) :=
  shapeCast_apply v h _ _ (by
    rw [Shape.rowMajor_val_two, Shape.rowMajor_val_one]
    show r.val * 1 + 0 = r.val
    omega)

/-- The result's element is its row's index after the last column block of the row block. -/
theorem result_read (r : Fin 64) :
    (mem5 m c (Proc.devRef .tc main_v2) : Vec Ideal S64 .i32) (spot r) = indices (mem3 m c) (cell r) := by
  have e : (mem5 m c (Proc.devRef .tc main_v2) : Vec Ideal S64 .i32)
      = shapeCast S64 (mem4 m c (Proc.devRef .tc main_call0_v1) : Vec Ideal S64x1 .i32) shapeCasts_S64x1_S64 := by
    unfold mem5
    after_reads_simp
    rfl
  have e4 : mem4 m c (Proc.devRef .tc main_call0_v1) = indices (mem3 m c) :=
    (Pipeline.afterRegion_arr (dat1 (mem3 m c) c) (mem3 m c) launch1.win.arr_inj 3).trans (array1 (mem3 m c) c)
  rw [e, e4]
  exact vector_apply _ _ r

/-- So the result's element is the index of its row's greatest score, the first of them if several. -/
theorem result_best (r : Fin 64) :
    (mem5 m c (Proc.devRef .tc main_v2) : Vec Ideal S64 .i32) (spot r)
      = BitVec.ofNat 32 (Best.best (score (m (c, Proc.devRef .tc main_arg0)) (m (c, Proc.devRef .tc main_arg1)) r) 1000000) := by
  have hr : r.val < 64 := r.isLt
  have hN : cfg1.N = 32 := N_1
  rw [result_read, indices_apply (mem3 m c) (cell r) (4 * (r.val / 8) + 3) (by omega) ⟨r.val % 8, by omega⟩
    (by show r.val = (4 * (r.val / 8) + 3) / 4 * 8 + r.val % 8; omega)]
  refine row_done (mem3 m c) ⟨4 * (r.val / 8) + 3, by omega⟩ (by show (4 * (r.val / 8) + 3) % 4 = 3; omega) _ _ (fun n hn => ?_) fun u hu j hj => ?_
  · unfold score; rw [dif_neg (by omega)]
  · have e0 : (grid1.coords u 0).val = u.val / 4 % 8 := Pipeline.Grid.coords_val u 0 (by decide) rfl
    have hu' : u.val / 4 = (4 * (r.val / 8) + 3) / 4 := hu
    exact block_score m c u r _ (by rw [e0]; show r.val = u.val / 4 % 8 * 8 + r.val % 8; omega) j hj

end Cert.KernelIdeal.Hand

end
-- ==== Proof.Reference.Scramble.lean ====
/-
  The reference's scrambling of words, in six stretches: what each leaves, then all of them.
-/
module

public import proofs.«01_k».proof.Proof.Reference.Line
public import proofs.«01_k».proof.Proof.Words
public import Idealize.ShloMosaic.Lib.Pipeline.Frame

@[expose] public section

set_option maxRecDepth 65536

noncomputable section

namespace Cert.ReferenceIdeal.Hand

open Cert.ReferenceIdeal Cert.ReferenceIdeal.Gen
open Idealize.ShloMosaic Idealize.ShloMosaic.TcCoe Idealize.SL.Sem
open Idealize.ShloMosaic.StableHlo

variable {F : FTy → Type} [FloatOps F]

/-- The one index of a single number. -/
def only : S_.Idx := fun a => Fin.elim0 a

/-- A single word spread over the table, read anywhere. -/
def spread (x : IVec S_ 32) (i : S64x1000000.Idx) : BitVec 32 := broadcastInDim S64x1000000 ![] bcast_S_S64x1000000 x i

/-- It is that word. -/
theorem spread_eq (x : IVec S_ 32) (i : S64x1000000.Idx) : spread x i = x only := congrArg x (funext fun a => Fin.elim0 a)

/-- The opening stretch. -/
def chunk0 : List (HloOp τ sig (Elt F)) := ((scramble (F := F)).1.drop 0).take 7

/-- The first stretch. -/
def chunk1 : List (HloOp τ sig (Elt F)) := ((scramble (F := F)).1.drop 7).take 43

/-- The second stretch. -/
def chunk2 : List (HloOp τ sig (Elt F)) := ((scramble (F := F)).1.drop 50).take 43

/-- The third stretch. -/
def chunk3 : List (HloOp τ sig (Elt F)) := ((scramble (F := F)).1.drop 93).take 43

/-- The fourth stretch. -/
def chunk4 : List (HloOp τ sig (Elt F)) := ((scramble (F := F)).1.drop 136).take 43

/-- The fifth stretch. -/
def chunk5 : List (HloOp τ sig (Elt F)) := ((scramble (F := F)).1.drop 179).take 44

/-- The stretches are the scrambling. -/
theorem scramble_chunks : (scramble (F := F)).1 = chunk0 ++ (chunk1 ++ (chunk2 ++ (chunk3 ++ (chunk4 ++ chunk5)))) := rfl

/-- The opening stretch leaves the two words, a key word added to each. -/
theorem chunk0_words (V : Valuation τ sig (Elt F)) (i : S64x1000000.Idx) :
    ((after chunk0 V (Proc.devRef .tc main_call0_call0_call0_v3) : IVec S64x1000000 32) i, (after chunk0 V (Proc.devRef .tc main_call0_call0_call0_v5) : IVec S64x1000000 32) i)
      = (IntOp.addi ((V (Proc.devRef .tc main_call0_call0_v18) : IVec S64x1000000 32) i) (spread (V (Proc.devRef .tc main_call0_call0_v5)) i), IntOp.addi ((V (Proc.devRef .tc main_call0_call0_v17) : IVec S64x1000000 32) i) (spread (V (Proc.devRef .tc main_call0_call0_v7)) i)) := by
  unfold chunk0
  after_reads_simp
  simp only [TRef.ofBuf_toBuf]
  rfl

/-- It leaves the third key word. -/
theorem chunk0_key (V : Valuation τ sig (Elt F)) (i : S64x1000000.Idx) :
    spread (after chunk0 V (Proc.devRef .tc main_call0_call0_call0_v1)) i = IntOp.xori (IntOp.xori (spread (V (Proc.devRef .tc main_call0_call0_v5)) i) (spread (V (Proc.devRef .tc main_call0_call0_v7)) i)) 466688986#32 := by
  unfold chunk0
  after_reads_simp
  simp only [TRef.ofBuf_toBuf]
  rfl

/-- It leaves the key word `a` alone. -/
theorem chunk0_a (V : Valuation τ sig (Elt F)) : after chunk0 V (Proc.devRef .tc main_call0_call0_v5) = V (Proc.devRef .tc main_call0_call0_v5) := by
  unfold chunk0
  after_reads_simp

/-- It leaves the key word `b` alone. -/
theorem chunk0_b (V : Valuation τ sig (Elt F)) : after chunk0 V (Proc.devRef .tc main_call0_call0_v7) = V (Proc.devRef .tc main_call0_call0_v7) := by
  unfold chunk0
  after_reads_simp

/-- The first stretch mixes four rounds and adds key words. -/
theorem chunk1_words (V : Valuation τ sig (Elt F)) (i : S64x1000000.Idx) :
    ((after chunk1 V (Proc.devRef .tc main_call0_call0_call0_v35) : IVec S64x1000000 32) i, (after chunk1 V (Proc.devRef .tc main_call0_call0_call0_v39) : IVec S64x1000000 32) i)
      = Words.inject (spread (V (Proc.devRef .tc main_call0_call0_v7)) i) (spread (V (Proc.devRef .tc main_call0_call0_call0_v1)) i) 1#32
          (Words.roundsA ((V (Proc.devRef .tc main_call0_call0_call0_v3) : IVec S64x1000000 32) i, (V (Proc.devRef .tc main_call0_call0_call0_v5) : IVec S64x1000000 32) i)) := by
  unfold chunk1
  after_reads_simp
  simp only [TRef.ofBuf_toBuf]
  rfl

/-- It leaves the key word `a` alone. -/
theorem chunk1_a (V : Valuation τ sig (Elt F)) : after chunk1 V (Proc.devRef .tc main_call0_call0_v5) = V (Proc.devRef .tc main_call0_call0_v5) := by
  unfold chunk1
  after_reads_simp

/-- It leaves the key word `b` alone. -/
theorem chunk1_b (V : Valuation τ sig (Elt F)) : after chunk1 V (Proc.devRef .tc main_call0_call0_v7) = V (Proc.devRef .tc main_call0_call0_v7) := by
  unfold chunk1
  after_reads_simp

/-- It leaves the key word `c` alone. -/
theorem chunk1_c (V : Valuation τ sig (Elt F)) : after chunk1 V (Proc.devRef .tc main_call0_call0_call0_v1) = V (Proc.devRef .tc main_call0_call0_call0_v1) := by
  unfold chunk1
  after_reads_simp

/-- The second stretch mixes four rounds and adds key words. -/
theorem chunk2_words (V : Valuation τ sig (Elt F)) (i : S64x1000000.Idx) :
    ((after chunk2 V (Proc.devRef .tc main_call0_call0_call0_v69) : IVec S64x1000000 32) i, (after chunk2 V (Proc.devRef .tc main_call0_call0_call0_v73) : IVec S64x1000000 32) i)
      = Words.inject (spread (V (Proc.devRef .tc main_call0_call0_call0_v1)) i) (spread (V (Proc.devRef .tc main_call0_call0_v5)) i) 2#32
          (Words.roundsB ((V (Proc.devRef .tc main_call0_call0_call0_v35) : IVec S64x1000000 32) i, (V (Proc.devRef .tc main_call0_call0_call0_v39) : IVec S64x1000000 32) i)) := by
  unfold chunk2
  after_reads_simp
  simp only [TRef.ofBuf_toBuf]
  rfl

/-- It leaves the key word `a` alone. -/
theorem chunk2_a (V : Valuation τ sig (Elt F)) : after chunk2 V (Proc.devRef .tc main_call0_call0_v5) = V (Proc.devRef .tc main_call0_call0_v5) := by
  unfold chunk2
  after_reads_simp

/-- It leaves the key word `b` alone. -/
theorem chunk2_b (V : Valuation τ sig (Elt F)) : after chunk2 V (Proc.devRef .tc main_call0_call0_v7) = V (Proc.devRef .tc main_call0_call0_v7) := by
  unfold chunk2
  after_reads_simp

/-- It leaves the key word `c` alone. -/
theorem chunk2_c (V : Valuation τ sig (Elt F)) : after chunk2 V (Proc.devRef .tc main_call0_call0_call0_v1) = V (Proc.devRef .tc main_call0_call0_call0_v1) := by
  unfold chunk2
  after_reads_simp

/-- The third stretch mixes four rounds and adds key words. -/
theorem chunk3_words (V : Valuation τ sig (Elt F)) (i : S64x1000000.Idx) :
    ((after chunk3 V (Proc.devRef .tc main_call0_call0_call0_v103) : IVec S64x1000000 32) i, (after chunk3 V (Proc.devRef .tc main_call0_call0_call0_v107) : IVec S64x1000000 32) i)
      = Words.inject (spread (V (Proc.devRef .tc main_call0_call0_v5)) i) (spread (V (Proc.devRef .tc main_call0_call0_v7)) i) 3#32
          (Words.roundsA ((V (Proc.devRef .tc main_call0_call0_call0_v69) : IVec S64x1000000 32) i, (V (Proc.devRef .tc main_call0_call0_call0_v73) : IVec S64x1000000 32) i)) := by
  unfold chunk3
  after_reads_simp
  simp only [TRef.ofBuf_toBuf]
  rfl

/-- It leaves the key word `a` alone. -/
theorem chunk3_a (V : Valuation τ sig (Elt F)) : after chunk3 V (Proc.devRef .tc main_call0_call0_v5) = V (Proc.devRef .tc main_call0_call0_v5) := by
  unfold chunk3
  after_reads_simp

/-- It leaves the key word `b` alone. -/
theorem chunk3_b (V : Valuation τ sig (Elt F)) : after chunk3 V (Proc.devRef .tc main_call0_call0_v7) = V (Proc.devRef .tc main_call0_call0_v7) := by
  unfold chunk3
  after_reads_simp

/-- It leaves the key word `c` alone. -/
theorem chunk3_c (V : Valuation τ sig (Elt F)) : after chunk3 V (Proc.devRef .tc main_call0_call0_call0_v1) = V (Proc.devRef .tc main_call0_call0_call0_v1) := by
  unfold chunk3
  after_reads_simp

/-- The fourth stretch mixes four rounds and adds key words. -/
theorem chunk4_words (V : Valuation τ sig (Elt F)) (i : S64x1000000.Idx) :
    ((after chunk4 V (Proc.devRef .tc main_call0_call0_call0_v137) : IVec S64x1000000 32) i, (after chunk4 V (Proc.devRef .tc main_call0_call0_call0_v141) : IVec S64x1000000 32) i)
      = Words.inject (spread (V (Proc.devRef .tc main_call0_call0_v7)) i) (spread (V (Proc.devRef .tc main_call0_call0_call0_v1)) i) 4#32
          (Words.roundsB ((V (Proc.devRef .tc main_call0_call0_call0_v103) : IVec S64x1000000 32) i, (V (Proc.devRef .tc main_call0_call0_call0_v107) : IVec S64x1000000 32) i)) := by
  unfold chunk4
  after_reads_simp
  simp only [TRef.ofBuf_toBuf]
  rfl

/-- It leaves the key word `a` alone. -/
theorem chunk4_a (V : Valuation τ sig (Elt F)) : after chunk4 V (Proc.devRef .tc main_call0_call0_v5) = V (Proc.devRef .tc main_call0_call0_v5) := by
  unfold chunk4
  after_reads_simp

/-- It leaves the key word `b` alone. -/
theorem chunk4_b (V : Valuation τ sig (Elt F)) : after chunk4 V (Proc.devRef .tc main_call0_call0_v7) = V (Proc.devRef .tc main_call0_call0_v7) := by
  unfold chunk4
  after_reads_simp

/-- It leaves the key word `c` alone. -/
theorem chunk4_c (V : Valuation τ sig (Elt F)) : after chunk4 V (Proc.devRef .tc main_call0_call0_call0_v1) = V (Proc.devRef .tc main_call0_call0_call0_v1) := by
  unfold chunk4
  after_reads_simp

/-- The fifth stretch mixes four rounds and adds key words. -/
theorem chunk5_words (V : Valuation τ sig (Elt F)) (i : S64x1000000.Idx) :
    ((after chunk5 V (Proc.devRef .tc main_call0_call0_v19_0) : IVec S64x1000000 32) i, (after chunk5 V (Proc.devRef .tc main_call0_call0_v19_1) : IVec S64x1000000 32) i)
      = Words.inject (spread (V (Proc.devRef .tc main_call0_call0_call0_v1)) i) (spread (V (Proc.devRef .tc main_call0_call0_v5)) i) 5#32
          (Words.roundsA ((V (Proc.devRef .tc main_call0_call0_call0_v137) : IVec S64x1000000 32) i, (V (Proc.devRef .tc main_call0_call0_call0_v141) : IVec S64x1000000 32) i)) := by
  unfold chunk5
  after_reads_simp
  simp only [TRef.ofBuf_toBuf]
  rfl

/-- All stretches together: twenty rounds on the two words, the first two key words added before them. -/
theorem scramble_words (V : Valuation τ sig (Elt F)) (i : S64x1000000.Idx) :
    ((after scramble.1 V (Proc.devRef .tc main_call0_call0_v19_0) : IVec S64x1000000 32) i, (after scramble.1 V (Proc.devRef .tc main_call0_call0_v19_1) : IVec S64x1000000 32) i)
      = Words.scramble (spread (V (Proc.devRef .tc main_call0_call0_v5)) i) (spread (V (Proc.devRef .tc main_call0_call0_v7)) i) (IntOp.xori (IntOp.xori (spread (V (Proc.devRef .tc main_call0_call0_v5)) i) (spread (V (Proc.devRef .tc main_call0_call0_v7)) i)) 466688986#32)
          (IntOp.addi ((V (Proc.devRef .tc main_call0_call0_v18) : IVec S64x1000000 32) i) (spread (V (Proc.devRef .tc main_call0_call0_v5)) i), IntOp.addi ((V (Proc.devRef .tc main_call0_call0_v17) : IVec S64x1000000 32) i) (spread (V (Proc.devRef .tc main_call0_call0_v7)) i)) := by
  rw [scramble_chunks]
  simp only [StableHlo.after_append]
  rw [chunk5_words, chunk4_words, chunk3_words, chunk2_words, chunk1_words, chunk0_words]
  rw [chunk4_c, chunk4_a, chunk3_b, chunk3_c, chunk3_a, chunk2_b, chunk2_c, chunk2_a, chunk1_b, chunk1_c, chunk1_a, chunk0_b, chunk0_key, chunk0_a]
  rfl

end Cert.ReferenceIdeal.Hand

end
-- ==== Proof.Reference.Value.lean ====
/-
  What the reference's line of operations leaves in its result, as one expression of its arguments.
-/
module

public import proofs.«01_k».proof.Proof.Reference.Scramble
public import Idealize.ShloMosaic.Lib.Pipeline.Value

@[expose] public section

set_option maxRecDepth 65536

noncomputable section

namespace Cert.ReferenceIdeal.Hand

open Cert.ReferenceIdeal Cert.ReferenceIdeal.Gen
open Idealize.ShloMosaic Idealize.ShloMosaic.TcCoe Idealize.SL.Sem
open Idealize.ShloMosaic.StableHlo

variable {F : FTy → Type} [FloatOps F]

/-- One number per row, spread along the row. -/
def along (t : FVec F S64 .f32) : FVec F S64x1000000 .f32 :=
  broadcastInDim S64x1000000 ![0, 1] bcast_S64x1_S64x1000000_0_1 (broadcastInDim S64x1 ![0] bcast_S64_S64x1_0 t)

/-- The logits over the temperatures. -/
def scaled (x : FVec F S64x1000000 .f32) (t : FVec F S64 .f32) : FVec F S64x1000000 .f32 := Host.divf x (along t)

/-- A row's greatest element. -/
def rowMax (y : FVec F S64x1000000 .f32) : FVec F S64 .f32 :=
  maximumf (broadcastInDim S64 ![] bcast_S_S64 (constant S_ .f32 0xFF800000#32))
    (Host.reduce FloatOps.maximumf y (constant S_ .f32 0xFF800000#32) reducesTo_S64x1000000_S64_d1 h_S_)

/-- The exponentials of a row, less its greatest element. -/
def shifted (y : FVec F S64x1000000 .f32) : FVec F S64x1000000 .f32 := Host.exp (subf y (along (rowMax y)))

/-- A row's total. -/
def total (e : FVec F S64x1000000 .f32) : FVec F S64 .f32 :=
  Host.reduceAdd e (constant S_ .f32 0x00000000#32) reducesTo_S64x1000000_S64_d1 h_S_

/-- A row over its total. -/
def weights (e : FVec F S64x1000000 .f32) : FVec F S64x1000000 .f32 := Host.divf e (along (total e))

/-- The operations before the scrambling: the weights. -/
def head0 : List (HloOp τ sig (Elt F)) := ((whole (F := F)).1.take 17)

/-- The operations before the scrambling: the key, the counters. -/
def head1 : List (HloOp τ sig (Elt F)) := ((whole (F := F)).1.take 51).drop 17

/-- The operations after the scrambling: the noise. -/
def tail0 : List (HloOp τ sig (Elt F)) := ((whole (F := F)).1.drop 273).take 21

/-- The operations after the scrambling: the ratios. -/
def tail1 : List (HloOp τ sig (Elt F)) := ((whole (F := F)).1.drop 294).take 4

/-- The operations after the scrambling: the index. -/
def tail2 : List (HloOp τ sig (Elt F)) := (whole (F := F)).1.drop 298

/-- The middle is the scrambling. -/
theorem whole_middle : ((whole (F := F)).1.drop 51).take 222 = (scramble (F := F)).1 := rfl

/-- The six stretches are the whole. -/
theorem whole_split : (whole (F := F)).1 = head0 ++ (head1 ++ ((scramble (F := F)).1 ++ (tail0 ++ (tail1 ++ tail2)))) := by
  rw [← whole_middle, head0, head1, tail0, tail1, tail2]
  generalize (whole (F := F)).1 = L
  have e1 : L.take 17 ++ (L.take 51).drop 17 = L.take 51 := by
    conv_rhs => rw [← List.take_append_drop 17 (L.take 51)]
    rw [List.take_take]; rfl
  have e2 : (L.drop 273).take 21 ++ L.drop 294 = L.drop 273 := by
    conv_rhs => rw [← List.take_append_drop 21 (L.drop 273), List.drop_drop]
  have e3 : (L.drop 51).take 222 ++ L.drop 273 = L.drop 51 := by
    conv_rhs => rw [← List.take_append_drop 222 (L.drop 51), List.drop_drop]
  have e4 : (L.drop 294).take 4 ++ L.drop 298 = L.drop 294 := by
    conv_rhs => rw [← List.take_append_drop 4 (L.drop 294), List.drop_drop]
  rw [e4, e2, e3, ← List.append_assoc, e1, List.take_append_drop]

/-- The first stretch leaves the weights. -/
theorem head0_weights (V : Valuation τ sig (Elt F)) :
    (after head0 V (Proc.devRef .tc main_v13) : FVec F S64x1000000 .f32)
      = weights (shifted (scaled (V (Proc.devRef .tc main_arg0)) (V (Proc.devRef .tc main_arg1)))) := by
  unfold head0
  after_reads_simp
  rfl

/-- The second stretch leaves them alone. -/
theorem head1_weights (V : Valuation τ sig (Elt F)) : after head1 V (Proc.devRef .tc main_v13) = V (Proc.devRef .tc main_v13) := by
  unfold head1
  after_reads_simp

/-- The second stretch leaves the first key word. -/
theorem head1_a (V : Valuation τ sig (Elt F)) : (after head1 V (Proc.devRef .tc main_call0_call0_v5) : IVec S_ 32) only = 0#32 := by
  unfold head1
  after_reads_simp
  rfl

/-- The one index of a single word. -/
def first1 : S1.Idx := fun | 0 => (0 : Fin 1)

/-- The second of two words laid side by side. -/
theorem second_word (x y : IVec S1 32) (h1 : S2.Slices ![1] S1) (h2 : S1.ShapeCasts S_) :
    shapeCast S_ (extractStridedSlice S1 ![1] (concatenate S2 0 [⟨S1, x⟩, ⟨S1, y⟩] concatenates_S1_S1_S2_d0) h1) h2 only = y first1 := by
  unfold shapeCast extractStridedSlice
  refine concatenate_pair_apply_right 0 x y concatenates_S1_S1_S2_d0 _ rfl rfl first1
    (fun b h => absurd (Fin.ext (Nat.lt_one_iff.mp b.isLt)) h) ?_
  have hz : ((Shape.reshapeEquiv h2) only (0 : Fin 1)).val = 0 := Nat.lt_one_iff.mp ((Shape.reshapeEquiv h2) only (0 : Fin 1)).isLt
  show 0 + 1 = 1 + ((Shape.reshapeEquiv h2) only (0 : Fin 1)).val
  rw [hz]

/-- The second stretch leaves the second key word. -/
theorem head1_b (V : Valuation τ sig (Elt F)) : (after head1 V (Proc.devRef .tc main_call0_call0_v7) : IVec S_ 32) only = 42#32 := by
  unfold head1
  after_reads_simp
  refine (second_word _ _ slices_S2_S1_1 shapeCasts_S1_S_).trans ?_
  after_reads_simp
  rfl

/-- An element's place in the table counted row by row, at 64 bits. -/
def place (i : S64x1000000.Idx) : BitVec 64 :=
  IntOp.addi (IntOp.muli 1000000#64 (BitVec.ofNat 64 (i 0).val)) (IntOp.muli 1#64 (BitVec.ofNat 64 (i 1).val))

/-- The second stretch leaves the lower half of an element's place. -/
theorem head1_lo (V : Valuation τ sig (Elt F)) (i : S64x1000000.Idx) :
    (after head1 V (Proc.devRef .tc main_call0_call0_v17) : IVec S64x1000000 32) i = (place i).setWidth 32 := by
  unfold head1
  after_reads_simp
  simp only [TRef.ofBuf_toBuf]
  rfl

/-- The second stretch leaves the upper half of an element's place. -/
theorem head1_hi (V : Valuation τ sig (Elt F)) (i : S64x1000000.Idx) :
    (after head1 V (Proc.devRef .tc main_call0_call0_v18) : IVec S64x1000000 32) i = (IntOp.shrui .host (place i) 32#64).setWidth 32 := by
  unfold head1
  after_reads_simp
  simp only [TRef.ofBuf_toBuf]
  rfl

/-- The second stretch leaves the bounds of the uniform numbers. -/
theorem head1_bounds (V : Valuation τ sig (Elt F)) :
    (after head1 V (Proc.devRef .tc main_call0_call0_v2) : FVec F S1x1 .f32) = (fun _ => FloatOps.ofBits .f32 0x00000000#32)
      ∧ (after head1 V (Proc.devRef .tc main_call0_call0_v3) : FVec F S1x1 .f32) = (fun _ => FloatOps.ofBits .f32 0x3F800000#32) := by
  constructor
  · unfold head1
    after_reads_simp
    simp only [TRef.ofBuf_toBuf]
    rfl
  · unfold head1
    after_reads_simp
    simp only [TRef.ofBuf_toBuf]
    rfl

/-- The uniform number of a word, as the reference computes it between the bounds `lo` and `hi`. -/
def unit (lo hi : FVec F S1x1 .f32) (w : BitVec 32) (i : S64x1000000.Idx) : F .f32 :=
  FloatOps.maximumf (broadcastInDim S64x1000000 ![0, 1] bcast_S1x1_S64x1000000_0_1 lo i)
    (FloatOps.addf
      (FloatOps.mulf (FloatOps.subf (FloatOps.ofBits .f32 (IntOp.ori (IntOp.shrui .host w 9#32) 1065353216#32)) (FloatOps.ofBits .f32 0x3F800000#32))
        (broadcastInDim S64x1000000 ![0, 1] bcast_S1x1_S64x1000000_0_1 (subf hi lo) i))
      (broadcastInDim S64x1000000 ![0, 1] bcast_S1x1_S64x1000000_0_1 lo i))

/-- The last but one stretch leaves the noise. -/
theorem tail0_noise (V : Valuation τ sig (Elt F)) (i : S64x1000000.Idx) :
    (after tail0 V (Proc.devRef .tc main_v21) : FVec F S64x1000000 .f32) i
      = FloatOps.hostNegf (FloatOps.hostUnary .log1p (FloatOps.hostNegf
          (unit (V (Proc.devRef .tc main_call0_call0_v2)) (V (Proc.devRef .tc main_call0_call0_v3))
            (IntOp.xori ((V (Proc.devRef .tc main_call0_call0_v19_0) : IVec S64x1000000 32) i) ((V (Proc.devRef .tc main_call0_call0_v19_1) : IVec S64x1000000 32) i)) i))) := by
  unfold tail0
  after_reads_simp
  rfl

/-- It leaves the weights alone. -/
theorem tail0_weights (V : Valuation τ sig (Elt F)) : after tail0 V (Proc.devRef .tc main_v13) = V (Proc.devRef .tc main_v13) := by
  unfold tail0
  after_reads_simp

/-- The ratios of the weights `w` to the noise `n`, which is held above a bound. -/
def ratio (w n : FVec F S64x1000000 .f32) : FVec F S64x1000000 .f32 :=
  Host.divf w (maximumf n (broadcastInDim S64x1000000 ![] bcast_S_S64x1000000 (constant S_ .f32 0x2EDBE6FF#32)))

/-- The words of a row of pairs. -/
def words {α : Type} (p : S64.Idx → α × BitVec 32) : IVec S64 32 := fun j => (p j).2

/-- The index of each row's greatest element. -/
def pick (x : FVec F S64x1000000 .f32) : IVec S64 32 :=
  words (Host.argReduce reducer_argmax_f32_i32 x (iotaInDim S64x1000000 32 1) (constant S_ .f32 0xFF800000#32) (constantI S_ 32 0#32)
    reducesTo_S64x1000000_S64_d1 h_S_)

/-- The last but one stretch leaves the ratios. -/
theorem tail1_ratio (V : Valuation τ sig (Elt F)) :
    (after tail1 V (Proc.devRef .tc main_v24) : FVec F S64x1000000 .f32) = ratio (V (Proc.devRef .tc main_v13)) (V (Proc.devRef .tc main_v21)) := by
  unfold tail1
  after_reads_simp
  rfl

/-- The last stretch leaves the index of the greatest. -/
theorem tail2_index (V : Valuation τ sig (Elt F)) :
    (after tail2 V (Proc.devRef .tc main_v25) : IVec S64 32) = pick (V (Proc.devRef .tc main_v24)) := by
  unfold tail2
  after_reads_simp
  rfl

/-- What the scrambling's stretches leave alone: the weights and the two bounds. -/
def Keeps (L : List (HloOp τ sig (Elt F))) : Prop :=
  ∀ V : Valuation τ sig (Elt F), after L V (Proc.devRef .tc main_v13) = V (Proc.devRef .tc main_v13)
    ∧ after L V (Proc.devRef .tc main_call0_call0_v2) = V (Proc.devRef .tc main_call0_call0_v2)
    ∧ after L V (Proc.devRef .tc main_call0_call0_v3) = V (Proc.devRef .tc main_call0_call0_v3)

/-- Two such stretches in a row are one. -/
theorem Keeps.append {a b : List (HloOp τ sig (Elt F))} (ha : Keeps a) (hb : Keeps b) : Keeps (a ++ b) := fun V => by
  rw [after_append]
  exact ⟨(hb _).1.trans (ha V).1, (hb _).2.1.trans (ha V).2.1, (hb _).2.2.trans (ha V).2.2⟩

/-- The opening stretch is one. -/
theorem chunk0_keeps : Keeps (F := F) chunk0 := fun V => by
  unfold chunk0
  refine ⟨?_, ?_, ?_⟩ <;> after_reads_simp

/-- The first stretch is one. -/
theorem chunk1_keeps : Keeps (F := F) chunk1 := fun V => by
  unfold chunk1
  refine ⟨?_, ?_, ?_⟩ <;> after_reads_simp

/-- The second stretch is one. -/
theorem chunk2_keeps : Keeps (F := F) chunk2 := fun V => by
  unfold chunk2
  refine ⟨?_, ?_, ?_⟩ <;> after_reads_simp

/-- The third stretch is one. -/
theorem chunk3_keeps : Keeps (F := F) chunk3 := fun V => by
  unfold chunk3
  refine ⟨?_, ?_, ?_⟩ <;> after_reads_simp

/-- The fourth stretch is one. -/
theorem chunk4_keeps : Keeps (F := F) chunk4 := fun V => by
  unfold chunk4
  refine ⟨?_, ?_, ?_⟩ <;> after_reads_simp

/-- The fifth stretch is one. -/
theorem chunk5_keeps : Keeps (F := F) chunk5 := fun V => by
  unfold chunk5
  refine ⟨?_, ?_, ?_⟩ <;> after_reads_simp

/-- The scrambling is one. -/
theorem scramble_keeps : Keeps (F := F) (scramble (F := F)).1 := by
  rw [scramble_chunks]
  exact chunk0_keeps.append (chunk1_keeps.append (chunk2_keeps.append (chunk3_keeps.append (chunk4_keeps.append chunk5_keeps))))

/-- The word of the generator at an element of the table, its two halves combined. -/
def bits (i : S64x1000000.Idx) : BitVec 32 :=
  let p := Words.scramble 0#32 42#32 (IntOp.xori (IntOp.xori 0#32 42#32) 466688986#32)
    (IntOp.addi ((IntOp.shrui .host (place i) 32#64).setWidth 32) 0#32, IntOp.addi ((place i).setWidth 32) 42#32)
  IntOp.xori p.1 p.2

/-- The noise at an element of the table. -/
def noise (i : S64x1000000.Idx) : F .f32 :=
  FloatOps.hostNegf (FloatOps.hostUnary .log1p (FloatOps.hostNegf
    (unit (fun _ => FloatOps.ofBits .f32 0x00000000#32) (fun _ => FloatOps.ofBits .f32 0x3F800000#32) (bits i) i)))

/-- What the whole line leaves in the result. -/
theorem whole_value (V : Valuation τ sig (Elt F)) :
    (after (whole (F := F)).1 V (Proc.devRef .tc main_v25) : IVec S64 32)
      = pick (ratio (weights (shifted (scaled (V (Proc.devRef .tc main_arg0)) (V (Proc.devRef .tc main_arg1))))) noise) := by
  rw [whole_split, after_append, after_append, after_append, after_append, after_append]
  have hn (V : Valuation τ sig (Elt F)) : (after tail0 (after (scramble (F := F)).1 (after head1 V)) (Proc.devRef .tc main_v21) : FVec F S64x1000000 .f32) = noise := by
    funext i
    have hs := scramble_words (after head1 V) i
    rw [spread_eq, spread_eq, head1_a, head1_b, head1_lo, head1_hi] at hs
    rw [tail0_noise, (scramble_keeps _).2.1, (scramble_keeps _).2.2, (head1_bounds V).1, (head1_bounds V).2]
    have h1 := congrArg Prod.fst hs
    have h2 := congrArg Prod.snd hs
    dsimp only at h1 h2
    rw [h1, h2]
    rfl
  rw [tail2_index, tail1_ratio, hn, tail0_weights, (scramble_keeps _).1, head1_weights, head0_weights]

end Cert.ReferenceIdeal.Hand

end
-- ==== Proof.Reference.Chosen.lean ====
/-
  The reference's result on the extended reals: in each row the least column whose ratio is greatest.
-/
module

public import proofs.«01_k».proof.Proof.Reference.Value
public import proofs.«01_k».proof.Proof.Best
public import proofs.«01_k».proof.Proof.Race

@[expose] public section

set_option maxRecDepth 65536

noncomputable section

namespace Cert.ReferenceIdeal.Hand

open Cert.ReferenceIdeal Cert.ReferenceIdeal.Gen
open Idealize.ShloMosaic Idealize.ShloMosaic.TcCoe

/-- The element of the table in row `j` and column `k`. -/
def pos (j : S64.Idx) (k : Fin 1000000) : S64x1000000.Idx := fun | 0 => j 0 | 1 => k

/-- An element drops to the row it stands in. -/
theorem drop_row (i : S64x1000000.Idx) (j : S64.Idx) : reducesTo_S64x1000000_S64_d1.drop i = j ↔ i = pos j (i 1) := by
  have hv : ((reducesTo_S64x1000000_S64_d1 : S64x1000000.ReducesTo [1] S64).drop i 0).val = (i 0).val :=
    Shape.ReducesTo.drop_apply_val_of_eq _ i 0 0
  constructor
  · rintro rfl
    funext a
    match a with
    | 0 => exact Fin.ext hv.symm
    | 1 => rfl
  · intro h
    funext b
    match b with
    | 0 => exact Fin.ext (hv.trans (congrArg (fun f : S64x1000000.Idx => (f 0).val) h))

/-- The order of the pairs the reference's fold compares: by value, then by the smaller column. -/
def Below (a b : EReal × BitVec 32) : Prop := a.1 < b.1 ∨ (a.1 = b.1 ∧ b.2.toInt ≤ a.2.toInt)

/-- The reference's choice between two pairs. -/
theorem choice (a b : EReal × BitVec 32) :
    reducer_argmax_f32_i32 (F := Ideal) a b = if b.1 < a.1 ∨ (a.1 = b.1 ∧ a.2.toInt < b.2.toInt) then a else b := by
  obtain ⟨x, p⟩ := a
  obtain ⟨y, q⟩ := b
  unfold reducer_argmax_f32_i32
  simp only [Ideal.cmpf_def, Ideal.cmp, IntOp.cmpi, Scalar.select, IntOp.ori, IntOp.andi, BitVec.slt, ne_eq, not_true_eq_false, decide_false]
  rcases lt_trichotomy y x with h | rfl | h
  · simp [h, h.ne']
  · by_cases hp : p.toInt < q.toInt <;> simp [hp]
  · simp [h.ne, h.not_gt]

/-- `Below` has every pair below itself. -/
theorem Below.refl (a : EReal × BitVec 32) : Below a a := .inr ⟨rfl, le_rfl⟩

/-- `Below` passes along. -/
theorem Below.trans (a b c : EReal × BitVec 32) (h : Below a b) (h' : Below b c) : Below a c := by
  rcases h with h | ⟨h, hi⟩ <;> rcases h' with h' | ⟨h', hi'⟩
  · exact .inl (h.trans h')
  · exact .inl (h.trans_eq h')
  · exact .inl (h.trans_lt h')
  · exact .inr ⟨h.trans h', hi'.trans hi⟩

/-- The choice takes one of the two, and the two are below what it takes. -/
theorem choice_spec (a b : EReal × BitVec 32) :
    (reducer_argmax_f32_i32 (F := Ideal) a b = a ∨ reducer_argmax_f32_i32 (F := Ideal) a b = b)
      ∧ Below a (reducer_argmax_f32_i32 (F := Ideal) a b) ∧ Below b (reducer_argmax_f32_i32 (F := Ideal) a b) := by
  rw [choice]
  by_cases h : b.1 < a.1 ∨ (a.1 = b.1 ∧ a.2.toInt < b.2.toInt)
  · rw [if_pos h]
    exact ⟨.inl rfl, .refl a, h.imp id fun h => ⟨h.1.symm, h.2.le⟩⟩
  · rw [if_neg h]
    refine ⟨.inr rfl, ?_, .refl b⟩
    rw [not_or, not_and, not_lt, not_lt] at h
    exact (lt_or_eq_of_le h.1).imp id fun e => ⟨e, h.2 e⟩

/-- A column's word, as a signed number, is the column. -/
theorem toInt_col {k : ℕ} (h : k < 1000000) : (BitVec.ofNat 32 k).toInt = k := by
  rw [BitVec.toInt_eq_toNat_of_lt] <;> rw [BitVec.toNat_ofNat, Nat.mod_eq_of_lt (by omega)]
  omega

/-- A row of the table, column by column. -/
def row (x : S64x1000000.Idx → EReal) (j : S64.Idx) (k : ℕ) : EReal := if h : k < 1000000 then x (pos j ⟨k, h⟩) else ⊥

/-- The pairs the fold of row `j` runs over are that row's. -/
theorem fiber_mem (x : S64x1000000.Idx → EReal) (j : S64.Idx) (q : EReal × BitVec 32) :
    q ∈ Host.argReduceFiber x (iotaInDim S64x1000000 32 1) reducesTo_S64x1000000_S64_d1 j
      ↔ ∃ k : ℕ, k < 1000000 ∧ q = (row x j k, BitVec.ofNat 32 k) := by
  unfold Host.argReduceFiber
  simp only [List.mem_map, List.mem_filter, List.mem_finRange, true_and, decide_eq_true_eq, drop_row]
  constructor
  · rintro ⟨n, hn, rfl⟩
    have hk : (S64x1000000.rowMajor.symm n 1).val < 1000000 := (S64x1000000.rowMajor.symm n 1).isLt
    refine ⟨(S64x1000000.rowMajor.symm n 1).val, hk, ?_⟩
    rw [row, dif_pos hk]
    exact Prod.ext (congrArg x hn) rfl
  · rintro ⟨k, hk, rfl⟩
    refine ⟨S64x1000000.rowMajor (pos j ⟨k, hk⟩), ?_, ?_⟩
    · rw [Equiv.symm_apply_apply]; rfl
    · rw [Equiv.symm_apply_apply, row, dif_pos hk]; rfl

/-- The fold over the pairs of `n` values and their columns finds the least column of a greatest value. -/
theorem fold_best (L : List (EReal × BitVec 32)) (s : ℕ → EReal) (n : ℕ) (hn : 0 < n) (hn' : n ≤ 1000000)
    (hL : ∀ q, q ∈ L ↔ ∃ k : ℕ, k < n ∧ q = (s k, BitVec.ofNat 32 k)) :
    (L.foldl (reducer_argmax_f32_i32 (F := Ideal)) (⊥, 0#32)).2 = BitVec.ofNat 32 (Best.best s n) := by
  obtain ⟨h1, -, h3⟩ := Best.foldl_choice (reducer_argmax_f32_i32 (F := Ideal)) Below Below.refl Below.trans (fun a b => (choice_spec a b).1)
    (fun a b => (choice_spec a b).2.1) (fun a b => (choice_spec a b).2.2) L (⊥, 0#32)
  have h3' : ∀ k, k < n → Below (s k, BitVec.ofNat 32 k) (L.foldl (reducer_argmax_f32_i32 (F := Ideal)) (⊥, 0#32)) :=
    fun k hk => h3 _ ((hL _).mpr ⟨k, hk, rfl⟩)
  generalize L.foldl (reducer_argmax_f32_i32 (F := Ideal)) (⊥, 0#32) = p at h1 h3'
  rcases h1 with rfl | h1
  · have hb : ∀ k, k < n → s k = ⊥ := fun k hk => by
      rcases h3' k hk with h | ⟨h, -⟩
      · exact absurd h not_lt_bot
      · exact h
    rw [Best.best_eq (s := s) (n := n) (i := 0) ⟨hn, fun k hk => by rw [hb k hk]; exact bot_le, fun k hk => absurd hk (Nat.not_lt_zero k)⟩]
  · obtain ⟨k, hk, rfl⟩ := (hL p).mp h1
    rw [Best.best_eq (s := s) (n := n) (i := k) ⟨hk, fun m hm => (h3' m hm).elim le_of_lt fun h => h.1.le, fun m hm => (h3' m (hm.trans hk)).elim id fun h => by
      have := h.2
      rw [toInt_col (hk.trans_le hn'), toInt_col ((hm.trans hk).trans_le hn')] at this
      omega⟩]

/-- The fold starts at minus infinity. -/
theorem start_value : (constant S_ .f32 0xFF800000#32 : FVec Ideal S_ .f32) (Shape.Idx.first h_S_) = (⊥ : EReal) := by
  show Ideal.ofBits .f32 0xFF800000#32 = ⊥
  simp [Ideal.ofBits, Ideal.ieee]

/-- An arg-max's index is known from any description of its fold. -/
theorem argReduce_index {s u : Shape} {axes : List (Fin s.rank)} (f : Ideal .f32 × BitVec 32 → Ideal .f32 × BitVec 32 → Ideal .f32 × BitVec 32)
    (x : FVec Ideal s .f32) (y : s.Idx → BitVec 32) (ix : u.Idx → Ideal .f32) (iy : u.Idx → BitVec 32) (h : s.ReducesTo axes S64) (hu : 0 < u.numel) (j : S64.Idx)
    (w : BitVec 32) (hw : ((Host.argReduceFiber x y h j).foldl f (ix (Shape.Idx.first hu), iy (Shape.Idx.first hu))).2 = w) :
    words (Host.argReduce f x y ix iy h hu) j = w := by
  rw [words, Ideal.argReduce_eq_reduce2, Host.reduce2_eq_foldl_fiber, hw]

/-- The index the fold of the reference's pairs leaves, from a start of minus infinity and column zero. -/
theorem fold_index (L : List (Ideal .f32 × BitVec 32)) (p : Ideal .f32 × BitVec 32) (hp : p = (⊥, 0#32)) (s : ℕ → EReal)
    (hL : ∀ q, q ∈ L ↔ ∃ k : ℕ, k < 1000000 ∧ q = (s k, BitVec.ofNat 32 k)) :
    (L.foldl (reducer_argmax_f32_i32 (F := Ideal)) p).2 = BitVec.ofNat 32 (Best.best s 1000000) := by
  subst hp
  exact fold_best L s 1000000 (by decide) le_rfl hL

/-- The reference's index in row `j` is the least column of a greatest element. -/
theorem pick_eq (x : FVec Ideal S64x1000000 .f32) (j : S64.Idx) :
    pick (F := Ideal) x j = BitVec.ofNat 32 (Best.best (row x j) 1000000) := by
  unfold pick
  refine argReduce_index (reducer_argmax_f32_i32 (F := Ideal)) x (iotaInDim S64x1000000 32 1) (constant S_ .f32 0xFF800000#32) (constantI S_ 32 0#32)
    reducesTo_S64x1000000_S64_d1 h_S_ j (BitVec.ofNat 32 (Best.best (row x j) 1000000)) ?_
  refine fold_index _ _ ?_ (row x j) ?_
  · exact Prod.ext start_value rfl
  · exact fiber_mem x j

end Cert.ReferenceIdeal.Hand

end
-- ==== Proof.Reference.Ratio.lean ====
/-
  The reference on the extended reals, element by element: its index is the best score's.
-/
module

public import proofs.«01_k».proof.Proof.Reference.Chosen
public import proofs.«01_k».proof.Proof.Fold

@[expose] public section

set_option maxRecDepth 65536

noncomputable section

namespace Cert.ReferenceIdeal.Hand

open Cert.ReferenceIdeal Cert.ReferenceIdeal.Gen
open Idealize.ShloMosaic Idealize.ShloMosaic.TcCoe

/-- A number spread along its row is read all along the row. -/
theorem along_apply (t : FVec Ideal S64 .f32) (j : S64.Idx) (k : Fin 1000000) : along t (pos j k) = t j := by
  unfold along broadcastInDim
  refine congrArg t (funext fun a => ?_)
  match a with
  | 0 => exact Fin.ext rfl

/-- A scaled logit is the logit over the temperature. -/
theorem scaled_apply (x : FVec Ideal S64x1000000 .f32) (t : FVec Ideal S64 .f32) (j : S64.Idx) (k : Fin 1000000) :
    scaled x t (pos j k) = Ideal.div (x (pos j k)) (t j) :=
  congrArg (Ideal.div (x (pos j k))) (along_apply t j k)

/-- The pattern of minus infinity. -/
theorem neg_infinity : Ideal.ofBits .f32 0xFF800000#32 = ⊥ := by simp [Ideal.ofBits, Ideal.ieee]

/-- The greater of minus infinity and a number is the number. -/
theorem max_bottom {s : Shape} (a b : FVec Ideal s .f32) (i : s.Idx) (h : a i = (⊥ : EReal)) : maximumf a b i = b i :=
  (congrArg (fun y : EReal => max y (b i)) h).trans (max_eq_right bot_le)

/-- A row's greatest element is at least each of the row, and is one of them or minus infinity. -/
theorem rowMax_spec (y : FVec Ideal S64x1000000 .f32) (j : S64.Idx) :
    (∀ k, y (pos j k) ≤ rowMax y j) ∧ (rowMax y j = ⊥ ∨ ∃ k, rowMax y j = y (pos j k)) := by
  obtain ⟨h1, -, h3⟩ := Fold.host_max y (constant S_ .f32 0xFF800000#32) reducesTo_S64x1000000_S64_d1 h_S_ j
  have e : rowMax y j = Host.reduce FloatOps.maximumf y (constant S_ .f32 0xFF800000#32) reducesTo_S64x1000000_S64_d1 h_S_ j := by
    unfold rowMax
    exact max_bottom _ _ _ neg_infinity
  rw [e]
  refine ⟨fun k => h3 _ ((drop_row _ _).mpr rfl), h1.imp (fun h => h.trans start_value) ?_⟩
  rintro ⟨i, hi, h⟩
  exact ⟨i 1, h.trans (congrArg y ((drop_row _ _).mp hi))⟩

/-- A row's total is the sum over its columns. -/
theorem total_apply (e : FVec Ideal S64x1000000 .f32) (j : S64.Idx) : total e j = ∑ k : Fin 1000000, e (pos j k) := by
  have hr : S64x1000000.Reduces [1] S64 := by decide
  have h0 : (constant S_ .f32 0x00000000#32 : FVec Ideal S_ .f32) (Shape.Idx.first h_S_) = (0 : EReal) := Ideal.ofBits_zero_f32
  unfold total
  rw [ValueIdx.hostReduceAdd_apply, h0, Ideal.hostReduceAdd_single reducesTo_S64x1000000_S64_d1 hr, zero_add]
  refine Finset.sum_congr rfl fun k _ => congrArg e (funext fun a => ?_)
  match a with
  | 0 => exact Fin.ext rfl
  | 1 => exact Fin.ext rfl

/-- A uniform number between zero and one. -/
theorem unit_apply (w : BitVec 32) (i : S64x1000000.Idx) :
    unit (F := Ideal) (fun _ => FloatOps.ofBits .f32 0x00000000#32) (fun _ => FloatOps.ofBits .f32 0x3F800000#32) w i = Race.unitOf w := by
  refine (show _ = max (Ideal.ofBits .f32 0x00000000#32)
    (Race.unitOf w * (Ideal.ofBits .f32 0x3F800000#32 - Ideal.ofBits .f32 0x00000000#32) + Ideal.ofBits .f32 0x00000000#32) from rfl).trans ?_
  rw [Ideal.ofBits_zero_f32, Ideal.ofBits_one_f32, sub_zero, mul_one, add_zero]
  obtain ⟨u, h0, -, e⟩ := Race.unitOf_real w
  rw [e]
  exact max_eq_right (by exact_mod_cast h0)

/-- The host's negated logarithm of one less a number. -/
theorem exponential_apply (u : Ideal .f32) :
    FloatOps.hostNegf (FloatOps.hostUnary .log1p (FloatOps.hostNegf u)) = -(Ideal.log1p (-(u : EReal))) := rfl

/-- The noise of an element, held above its bound. -/
theorem noise_held (i : S64x1000000.Idx) : max (noise (F := Ideal) i : EReal) (Ideal.ofBits .f32 0x2EDBE6FF#32) = Race.held (bits i) := by
  rw [noise, exponential_apply, unit_apply, Race.held]

/-- A quotient whose divisor is held above a bound. -/
theorem quotient_apply {s : Shape} (w n c : FVec Ideal s .f32) (i : s.Idx) :
    Host.divf w (maximumf n c) i = Ideal.div (w i) (max (n i) (c i)) := rfl

/-- A ratio is the weight over the noise of the element's word. -/
theorem ratio_apply (w : FVec Ideal S64x1000000 .f32) (i : S64x1000000.Idx) : ratio w noise i = Ideal.div (w i) (Race.held (bits i)) := by
  rw [ratio, quotient_apply, ← noise_held]
  rfl

/-- The host's exponential of a difference. -/
theorem exp_apply {s : Shape} (a b : FVec Ideal s .f32) (i : s.Idx) : Host.exp (subf a b) i = Ideal.exp (a i - b i) := rfl

/-- The logarithm of a positive real number. -/
theorem log_real {n : ℝ} (hn : 0 < n) : Ideal.log (n : EReal) = ((Real.log n : ℝ) : EReal) := if_neg (not_le.mpr hn)

/-- The score of column `k` in row `j`: the logit and, times the temperature, minus the logarithm of the noise. -/
def score (x : FVec Ideal S64x1000000 .f32) (t : FVec Ideal S64 .f32) (j : S64.Idx) (k : ℕ) : EReal :=
  if h : k < 1000000 then x (pos j ⟨k, h⟩) + t j * -(Ideal.log (Race.held (bits (pos j ⟨k, h⟩)))) else ⊥

/-- The reference's index in each row is the best score's, where the logits are below plus infinity and the temperatures positive real numbers. -/
theorem chosen (x : FVec Ideal S64x1000000 .f32) (t : FVec Ideal S64 .f32) (j : S64.Idx) (hx : ∀ i, x i < ⊤) (ht : 0 < t j) (ht' : t j < ⊤) :
    pick (ratio (weights (shifted (scaled x t))) noise) j = BitVec.ofNat 32 (Best.best (score x t j) 1000000) := by
  rw [pick_eq]
  refine congrArg (BitVec.ofNat 32) ?_
  obtain ⟨τ, hτ⟩ : ∃ τ : ℝ, t j = τ := ⟨(t j).toReal, (EReal.coe_toReal ht'.ne (ne_bot_of_gt ht)).symm⟩
  have hτ0 : 0 < τ := by rw [hτ] at ht; exact_mod_cast ht
  choose N hN0 hN using fun k : Fin 1000000 => Race.held_real (bits (pos j k))
  obtain ⟨hM, hM'⟩ := rowMax_spec (scaled x t) j
  generalize hm : rowMax (scaled x t) j = M at hM hM'
  simp only [scaled_apply, hτ] at hM hM'
  have hs : ∀ k, shifted (scaled x t) (pos j k) = Ideal.exp (Ideal.div (x (pos j k)) τ - M) := fun k => by
    rw [shifted, exp_apply, scaled_apply, along_apply, hm, hτ]
  have hw : ∀ k, ratio (weights (shifted (scaled x t))) noise (pos j k)
      = Ideal.div (Ideal.div (Ideal.exp (Ideal.div (x (pos j k)) τ - M)) (∑ k, Ideal.exp (Ideal.div (x (pos j k)) τ - M))) (N k) := fun k => by
    rw [ratio_apply, hN, weights, ValueIdx.hostDivf_apply, along_apply, total_apply, Finset.sum_congr rfl fun k _ => hs k, hs]
  refine Best.best_congr _ _ _ fun a b ha hb => ?_
  rw [row, row, dif_pos ha, dif_pos hb, score, score, dif_pos ha, dif_pos hb, hw, hw, hN, hN, hτ,
    Race.order (fun k => x (pos j k)) τ N M _ (fun k => hx _) hτ0 hN0 hM hM' rfl]
  rw [log_real (hN0 _), log_real (hN0 _), EReal.coe_neg, EReal.coe_neg]

end Cert.ReferenceIdeal.Hand

end
-- ==== Proof.Reference.Bits.lean ====
/-
  The word the reference's generator draws at an element is the word of the element's place.
-/
module

public import proofs.«01_k».proof.Proof.Reference.Ratio

@[expose] public section

set_option maxRecDepth 65536

noncomputable section

namespace Cert.ReferenceIdeal.Hand

open Cert.ReferenceIdeal Cert.ReferenceIdeal.Gen
open Idealize.ShloMosaic Idealize.ShloMosaic.TcCoe

/-- An element's place is a number. -/
theorem place_eq (j : S64.Idx) (k : Fin 1000000) : place (pos j k) = BitVec.ofNat 64 ((j 0).val * 1000000 + k.val) := by
  show 1000000#64 * BitVec.ofNat 64 (j 0).val + 1#64 * BitVec.ofNat 64 k.val = _
  rw [BitVec.one_mul, BitVec.mul_comm, BitVec.ofNat_add, BitVec.ofNat_mul]

/-- Its upper half is zero when it fits the lower half. -/
theorem upper_zero (n : ℕ) (h : n < 4294967296) : (IntOp.shrui .host (BitVec.ofNat 64 n) 32#64).setWidth 32 = 0#32 := by
  have e : IntOp.shrui .host (BitVec.ofNat 64 n) 32#64 = BitVec.ofNat 64 n >>> 32 := rfl
  rw [e]
  apply BitVec.eq_of_toNat_eq
  rw [BitVec.toNat_setWidth, BitVec.toNat_ushiftRight, BitVec.toNat_ofNat, Nat.shiftRight_eq_div_pow]
  have : n % 2 ^ 64 / 2 ^ 32 = 0 := Nat.div_eq_of_lt (by omega)
  rw [this]; rfl

/-- Its lower half is the number again. -/
theorem lower_eq (n : ℕ) : (BitVec.ofNat 64 n).setWidth 32 = BitVec.ofNat 32 n := BitVec.setWidth_ofNat_of_le (by decide) n

/-- The word at an element is its place's. -/
theorem bits_eq (j : S64.Idx) (k : Fin 1000000) : bits (pos j k) = Words.word ((j 0).val * 1000000 + k.val) := by
  have h0 : (j 0).val < 64 := (j 0).isLt
  have hk := k.isLt
  unfold bits Words.word
  rw [place_eq, upper_zero _ (by omega), lower_eq]
  rfl

end Cert.ReferenceIdeal.Hand

end
-- ==== Proof.Equation.lean ====
/-
  The equation: on the same logits and temperatures the kernel and the reference choose the same index in every row.
-/
module

public import proofs.«01_k».proof.Proof.KernelIdeal.Value
public import proofs.«01_k».proof.Proof.Reference.Bits
public import proofs.«01_k».proof.Proof.Reference.Run

@[expose] public section

set_option maxRecDepth 16384

noncomputable section

namespace Cert.Equation

open Idealize.ShloMosaic Idealize.ShloMosaic.TcCoe
open Cert.KernelIdeal.Hand (spot at2 mem5)

/-- An element of a vector is that of its place. -/
theorem eq_spot (j : Cert.ReferenceIdeal.S64.Idx) : j = spot (j 0) := by
  funext a
  match a with
  | 0 => rfl

/-- The two programs' elements of an array in a row and a column are the same. -/
theorem pos_eq (r : Fin 64) (k : Fin 1000000) : Cert.ReferenceIdeal.Hand.pos (spot r) k = at2 r k := by
  funext a
  match a with
  | 0 => rfl
  | 1 => rfl

/-- The two programs' scores are the same. -/
theorem score_eq (x : FVec Ideal Cert.ReferenceIdeal.S64x1000000 .f32) (t : FVec Ideal Cert.ReferenceIdeal.S64 .f32) (r : Fin 64) :
    Cert.ReferenceIdeal.Hand.score x t (spot r) = Cert.KernelIdeal.Hand.score x t r := by
  funext k
  unfold Cert.ReferenceIdeal.Hand.score Cert.KernelIdeal.Hand.score
  by_cases h : k < 1000000
  · rw [dif_pos h, dif_pos h, Cert.ReferenceIdeal.Hand.bits_eq, pos_eq]
    rfl
  · rw [dif_neg h, dif_neg h]

/-- So are their results, where the logits are below infinity and the temperatures above zero and below infinity. -/
theorem results (m : (ℓ : Loc Cert.KernelIdeal.nD Cert.KernelIdeal.τ Cert.KernelIdeal.sig) → Buf (Elt Ideal) ℓ) (c : Dev Cert.KernelIdeal.nD)
    (V : Valuation Cert.ReferenceIdeal.τ Cert.ReferenceIdeal.sig (Elt Ideal))
    (x : FVec Ideal Cert.ReferenceIdeal.S64x1000000 .f32) (t : FVec Ideal Cert.ReferenceIdeal.S64 .f32)
    (hVx : V (Proc.devRef .tc Cert.ReferenceIdeal.main_arg0) = x) (hVt : V (Proc.devRef .tc Cert.ReferenceIdeal.main_arg1) = t)
    (hmx : m (c, Proc.devRef .tc Cert.KernelIdeal.main_arg0) = x) (hmt : m (c, Proc.devRef .tc Cert.KernelIdeal.main_arg1) = t)
    (hx : ∀ i, (x i : EReal) < ⊤) (ht : ∀ j, (0 : EReal) < t j) (ht' : ∀ j, (t j : EReal) < ⊤) :
    (StableHlo.after (Cert.ReferenceIdeal.Hand.whole (F := Ideal)).1 V (Proc.devRef .tc Cert.ReferenceIdeal.main_v25) : IVec Cert.ReferenceIdeal.S64 32)
      = mem5 m c (Proc.devRef .tc Cert.KernelIdeal.main_v2) := by
  refine (Cert.ReferenceIdeal.Hand.whole_value V).trans ?_
  rw [hVx, hVt]
  funext j
  obtain ⟨r, rfl⟩ : ∃ r : Fin 64, j = spot r := ⟨j 0, eq_spot j⟩
  have hk := Cert.KernelIdeal.Hand.result_best m c r
  rw [hmx, hmt] at hk
  have hr := Cert.ReferenceIdeal.Hand.chosen x t (spot r) hx (ht _) (ht' _)
  rw [score_eq] at hr
  exact hr.trans hk.symm

end Cert.Equation

end
-- ==== Proof.lean ====
/-
  The claims assembled: each program's run, weakened to what its claim says, and the equation of the two results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Run
public import proofs.«01_k».proof.Proof.KernelIdeal.Run
public import proofs.«01_k».proof.Proof.Reference.Run
public import proofs.«01_k».proof.Proof.Pre
public import proofs.«01_k».proof.Proof.Equation

@[expose] public section

noncomputable section

namespace Cert.Proof

open Idealize.ShloMosaic Idealize.SL.Sem

/-- The kernel as printed runs and leaves its arguments alone. -/
theorem kernel_frame : Cert.quiescent_Kernel (hKernel := Cert.Kernel.Gen.facts) := fun m g _ =>
  θ_run_mono (Cert.Kernel.Hand.run m g) fun _ h => ⟨fun c => (h.1 c).2, h.2⟩

/-- The kernel over the extended reals runs and leaves its arguments alone; -/
theorem ideal_frame : Cert.quiescent_KernelIdeal (hKernelIdeal := Cert.KernelIdeal.Gen.facts) := fun m g _ =>
  θ_run_mono (Cert.KernelIdeal.Hand.run m g) fun _ h => ⟨fun c => (h.1 c).2, h.2⟩

/-- so in particular where the precondition holds. -/
theorem ideal_frame_pre : Cert.quiescent_KernelIdeal_pre_logits_below_infinity_and_temperatures_positive (hKernelIdeal := Cert.KernelIdeal.Gen.facts)
    (hPre_logits_below_infinity_and_temperatures_positive := Cert.Pre_logits_below_infinity_and_temperatures_positive.Hand.facts) := fun m g _ =>
  θ_run_mono (Cert.KernelIdeal.Hand.run m g) fun _ h => ⟨fun c => (h.1 c).2, h.2⟩

/-- The reference over the extended reals runs and leaves its arguments alone; -/
theorem reference_frame : Cert.quiescent_ReferenceIdeal (hReferenceIdeal := Cert.ReferenceIdeal.Gen.facts) := fun m g _ =>
  θ_run_mono (Cert.ReferenceIdeal.Hand.frame m g) fun _ h => ⟨fun c => (h.1 c).2, h.2⟩

/-- so in particular where the precondition holds. -/
theorem reference_frame_pre :
    Cert.quiescent_ReferenceIdeal_pre_logits_below_infinity_and_temperatures_positive (hReferenceIdeal := Cert.ReferenceIdeal.Gen.facts)
    (hPre_logits_below_infinity_and_temperatures_positive := Cert.Pre_logits_below_infinity_and_temperatures_positive.Hand.facts) := fun m g _ =>
  θ_run_mono (Cert.ReferenceIdeal.Hand.frame m g) fun _ h => ⟨fun c => (h.1 c).2, h.2⟩

/-- Over the extended reals the kernel and the reference, from the same arguments, end with the same indices. -/
theorem same_result :
    Cert.algebraic_KernelIdeal_ReferenceIdeal_pre_logits_below_infinity_and_temperatures_positive (hKernelIdeal := Cert.KernelIdeal.Gen.facts)
    (hReferenceIdeal := Cert.ReferenceIdeal.Gen.facts)
    (hPre_logits_below_infinity_and_temperatures_positive := Cert.Pre_logits_below_infinity_and_temperatures_positive.Hand.facts) :=
  fun m g m' g' hpre hargs => by
    refine ⟨fun c => Cert.KernelIdeal.Hand.mem5 m c (Proc.devRef .tc Cert.KernelIdeal.main_v2),
      θ_run_mono (Cert.KernelIdeal.Hand.run m g) fun _ h => h.1, θ_run_mono (Cert.ReferenceIdeal.Hand.frame m' g') fun r h c => ⟨?_, (h.1 c).2⟩⟩
    haveI := Cert.Pre_logits_below_infinity_and_temperatures_positive.Hand.facts
    obtain ⟨hx, ht, ht'⟩ := Cert.Pre_logits_below_infinity_and_temperatures_positive.Hand.meaning _ _ (hpre c)
    exact (h.1 c).1.trans (Cert.Equation.results m c _ _ _ (hargs c).1 (hargs c).2 rfl rfl hx ht ht')

/-- Every claim. -/
theorem claim : Cert.Claim :=
  ⟨Cert.Kernel.Gen.facts, Cert.KernelIdeal.Gen.facts, Cert.ReferenceIdeal.Gen.facts,
    Cert.Pre_logits_below_infinity_and_temperatures_positive.Hand.facts,
    kernel_frame, ideal_frame, ideal_frame_pre, reference_frame, reference_frame_pre, trivial, same_result⟩

end Cert.Proof

end
